-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576 : Shape := ⟨1, ![1048576]⟩
abbrev S4x1048576 : Shape := ⟨2, ![4, 1048576]⟩
abbrev S2048 : Shape := ⟨1, ![2048]⟩
abbrev S_ : Shape := ⟨0, ![]⟩
abbrev S16 : Shape := ⟨1, ![16]⟩
abbrev S1x2048 : Shape := ⟨2, ![1, 2048]⟩

abbrev nBuf : Table → Nat
  | .hbm => 5
  | .local .scVector .vmem => 48
  | _ => 0

abbrev bufTy : (tb : Table) → Fin (nBuf tb) → BufTy
  | .hbm, ⟨0, _⟩ => ⟨S1048576, .f32⟩
  | .hbm, ⟨1, _⟩ => ⟨S1048576, .f32⟩
  | .hbm, ⟨2, _⟩ => ⟨S1048576, .f32⟩
  | .hbm, ⟨3, _⟩ => ⟨S1048576, .f32⟩
  | .hbm, ⟨4, _⟩ => ⟨S4x1048576, .f32⟩
  | .local .scVector .vmem, ⟨0, _⟩ => ⟨S2048, .f32⟩
  | .local .scVector .vmem, ⟨1, _⟩ => ⟨S2048, .f32⟩
  | .local .scVector .vmem, ⟨2, _⟩ => ⟨S2048, .f32⟩
  | .local .scVector .vmem, ⟨3, _⟩ => ⟨S2048, .f32⟩
  | .local .scVector .vmem, ⟨4, _⟩ => ⟨S2048, .f32⟩
  | .local .scVector .vmem, ⟨5, _⟩ => ⟨S2048, .f32⟩
  | .local .scVector .vmem, ⟨6, _⟩ => ⟨S2048, .f32⟩
  | .local .scVector .vmem, ⟨7, _⟩ => ⟨S2048, .f32⟩
  | .local .scVector .vmem, ⟨8, _⟩ => ⟨S2048, .f32⟩
  | .local .scVector .vmem, ⟨9, _⟩ => ⟨S2048, .f32⟩
  | .local .scVector .vmem, ⟨10, _⟩ => ⟨S2048, .f32⟩
  | .local .scVector .vmem, ⟨11, _⟩ => ⟨S2048, .f32⟩
  | .local .scVector .vmem, ⟨12, _⟩ => ⟨S2048, .f32⟩
  | .local .scVector .vmem, ⟨13, _⟩ => ⟨S2048, .f32⟩
  | .local .scVector .vmem, ⟨14, _⟩ => ⟨S2048, .f32⟩
  | .local .scVector .vmem, ⟨15, _⟩ => ⟨S2048, .f32⟩
  | .local .scVector .vmem, ⟨16, _⟩ => ⟨S2048, .f32⟩
  | .local .scVector .vmem, ⟨17, _⟩ => ⟨S2048, .f32⟩
  | .local .scVector .vmem, ⟨18, _⟩ => ⟨S2048, .f32⟩
  | .local .scVector .vmem, ⟨19, _⟩ => ⟨S2048, .f32⟩
  | .local .scVector .vmem, ⟨20, _⟩ => ⟨S2048, .f32⟩
  | .local .scVector .vmem, ⟨21, _⟩ => ⟨S2048, .f32⟩
  | .local .scVector .vmem, ⟨22, _⟩ => ⟨S2048, .f32⟩
  | .local .scVector .vmem, ⟨23, _⟩ => ⟨S2048, .f32⟩
  | .local .scVector .vmem, ⟨24, _⟩ => ⟨S2048, .f32⟩
  | .local .scVector .vmem, ⟨25, _⟩ => ⟨S2048, .f32⟩
  | .local .scVector .vmem, ⟨26, _⟩ => ⟨S2048, .f32⟩
  | .local .scVector .vmem, ⟨27, _⟩ => ⟨S2048, .f32⟩
  | .local .scVector .vmem, ⟨28, _⟩ => ⟨S2048, .f32⟩
  | .local .scVector .vmem, ⟨29, _⟩ => ⟨S2048, .f32⟩
  | .local .scVector .vmem, ⟨30, _⟩ => ⟨S2048, .f32⟩
  | .local .scVector .vmem, ⟨31, _⟩ => ⟨S2048, .f32⟩
  | .local .scVector .vmem, ⟨32, _⟩ => ⟨S2048, .f32⟩
  | .local .scVector .vmem, ⟨33, _⟩ => ⟨S2048, .f32⟩
  | .local .scVector .vmem, ⟨34, _⟩ => ⟨S2048, .f32⟩
  | .local .scVector .vmem, ⟨35, _⟩ => ⟨S2048, .f32⟩
  | .local .scVector .vmem, ⟨36, _⟩ => ⟨S2048, .f32⟩
  | .local .scVector .vmem, ⟨37, _⟩ => ⟨S2048, .f32⟩
  | .local .scVector .vmem, ⟨38, _⟩ => ⟨S2048, .f32⟩
  | .local .scVector .vmem, ⟨39, _⟩ => ⟨S2048, .f32⟩
  | .local .scVector .vmem, ⟨40, _⟩ => ⟨S2048, .f32⟩
  | .local .scVector .vmem, ⟨41, _⟩ => ⟨S2048, .f32⟩
  | .local .scVector .vmem, ⟨42, _⟩ => ⟨S2048, .f32⟩
  | .local .scVector .vmem, ⟨43, _⟩ => ⟨S2048, .f32⟩
  | .local .scVector .vmem, ⟨44, _⟩ => ⟨S2048, .f32⟩
  | .local .scVector .vmem, ⟨45, _⟩ => ⟨S2048, .f32⟩
  | .local .scVector .vmem, ⟨46, _⟩ => ⟨S2048, .f32⟩
  | .local .scVector .vmem, ⟨47, _⟩ => ⟨S2048, .f32⟩
  | _, _ => ⟨S1048576, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev cc0_scratch23 : Ref sig .scVector := ⟨.vmem, 23, rfl⟩
abbrev cc0_scratch24 : Ref sig .scVector := ⟨.vmem, 24, rfl⟩
abbrev cc0_scratch25 : Ref sig .scVector := ⟨.vmem, 25, rfl⟩
abbrev cc0_scratch26 : Ref sig .scVector := ⟨.vmem, 26, rfl⟩
abbrev cc0_scratch27 : Ref sig .scVector := ⟨.vmem, 27, rfl⟩
abbrev cc0_scratch28 : Ref sig .scVector := ⟨.vmem, 28, rfl⟩
abbrev cc0_scratch29 : Ref sig .scVector := ⟨.vmem, 29, rfl⟩
abbrev cc0_scratch30 : Ref sig .scVector := ⟨.vmem, 30, rfl⟩
abbrev cc0_scratch31 : Ref sig .scVector := ⟨.vmem, 31, rfl⟩
abbrev cc0_scratch32 : Ref sig .scVector := ⟨.vmem, 32, rfl⟩
abbrev cc0_scratch33 : Ref sig .scVector := ⟨.vmem, 33, rfl⟩
abbrev cc0_scratch34 : Ref sig .scVector := ⟨.vmem, 34, rfl⟩
abbrev cc0_scratch35 : Ref sig .scVector := ⟨.vmem, 35, rfl⟩
abbrev cc0_scratch36 : Ref sig .scVector := ⟨.vmem, 36, rfl⟩
abbrev cc0_scratch37 : Ref sig .scVector := ⟨.vmem, 37, rfl⟩
abbrev cc0_scratch38 : Ref sig .scVector := ⟨.vmem, 38, rfl⟩
abbrev cc0_scratch39 : Ref sig .scVector := ⟨.vmem, 39, rfl⟩
abbrev cc0_scratch40 : Ref sig .scVector := ⟨.vmem, 40, rfl⟩
abbrev cc0_scratch41 : Ref sig .scVector := ⟨.vmem, 41, rfl⟩
abbrev cc0_scratch42 : Ref sig .scVector := ⟨.vmem, 42, rfl⟩
abbrev cc0_scratch43 : Ref sig .scVector := ⟨.vmem, 43, rfl⟩
abbrev cc0_scratch44 : Ref sig .scVector := ⟨.vmem, 44, rfl⟩
abbrev cc0_scratch45 : Ref sig .scVector := ⟨.vmem, 45, rfl⟩
abbrev cc0_scratch46 : Ref sig .scVector := ⟨.vmem, 46, rfl⟩
abbrev cc0_scratch47 : Ref sig .scVector := ⟨.vmem, 47, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v3 : BitVec 32 := Scalar.addi v2 c0_i32
  ![v3.toNat]
@[reducible] def k0_t1_loop : Scf.Loop 32 :=
  let c0_i32_1 : BitVec 32 := 0#32
  let c64_i32 : BitVec 32 := 64#32
  let v65 : BitVec 32 := Scalar.addi c0_i32_1 c64_i32
  let c1_i32 : BitVec 32 := 1#32
  ⟨c0_i32_1, v65, c1_i32⟩
def k0_off2 (k0_t1 : Fin k0_t1_loop.trips) (c0_i32_221 : BitVec 32) : Fin 1 → Nat :=
  let c0_i32_1 : BitVec 32 := 0#32
  let c1_i32 : BitVec 32 := 1#32
  let arg67 : BitVec 32 := Scf.iv c0_i32_1 c1_i32 k0_t1
  let c32_i32 : BitVec 32 := 32#32
  let v819 : BitVec 32 := Scalar.muli arg67 c32_i32
  let v820 : BitVec 32 := Scalar.addi v819 c0_i32_221
  let v821 : Index := Scalar.indexCast v820
  ![v821.toNat]
def k0_off3 (i : grid0.Coords) (c0_i32_3 : BitVec 32) : Fin 2 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v75 : BitVec 32 := Scalar.addi v2 c0_i32_3
  ![0, v75.toNat]
def k0_off4 (i : grid0.Coords) (c0_i32_3 : BitVec 32) : Fin 2 → Nat :=
  let c1_i32_5 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v75 : BitVec 32 := Scalar.addi v2 c0_i32_3
  ![1, v75.toNat]
def k0_off5 (i : grid0.Coords) (c0_i32_3 : BitVec 32) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v75 : BitVec 32 := Scalar.addi v2 c0_i32_3
  ![2, v75.toNat]
def k0_off6 (i : grid0.Coords) (c0_i32_3 : BitVec 32) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v75 : BitVec 32 := Scalar.addi v2 c0_i32_3
  ![3, v75.toNat]
@[reducible] def k0_t2_loop : Scf.Loop 32 :=
  let c0_i32_8 : BitVec 32 := 0#32
  let c64_i32_9 : BitVec 32 := 64#32
  let v100 : BitVec 32 := Scalar.addi c0_i32_8 c64_i32_9
  let c1_i32_10 : BitVec 32 := 1#32
  ⟨c0_i32_8, v100, c1_i32_10⟩
def k0_off7 (k0_t2 : Fin k0_t2_loop.trips) (c0_i32_221 : BitVec 32) : Fin 1 → Nat :=
  let c0_i32_8 : BitVec 32 := 0#32
  let c1_i32_10 : BitVec 32 := 1#32
  let arg67 : BitVec 32 := Scf.iv c0_i32_8 c1_i32_10 k0_t2
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t3_loop : Scf.Loop 32 :=
  let c0_i32_18 : BitVec 32 := 0#32
  let c64_i32_19 : BitVec 32 := 64#32
  let v135 : BitVec 32 := Scalar.addi c0_i32_18 c64_i32_19
  let c1_i32_20 : BitVec 32 := 1#32
  ⟨c0_i32_18, v135, c1_i32_20⟩
def k0_off8 (k0_t3 : Fin k0_t3_loop.trips) (c0_i32_221 : BitVec 32) : Fin 1 → Nat :=
  let c0_i32_18 : BitVec 32 := 0#32
  let c1_i32_20 : BitVec 32 := 1#32
  let arg67 : BitVec 32 := Scf.iv c0_i32_18 c1_i32_20 k0_t3
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t4_loop : Scf.Loop 32 :=
  let c0_i32_28 : BitVec 32 := 0#32
  let c64_i32_29 : BitVec 32 := 64#32
  let v170 : BitVec 32 := Scalar.addi c0_i32_28 c64_i32_29
  let c1_i32_30 : BitVec 32 := 1#32
  ⟨c0_i32_28, v170, c1_i32_30⟩
def k0_off9 (k0_t4 : Fin k0_t4_loop.trips) (c0_i32_221 : BitVec 32) : Fin 1 → Nat :=
  let c0_i32_28 : BitVec 32 := 0#32
  let c1_i32_30 : BitVec 32 := 1#32
  let arg67 : BitVec 32 := Scf.iv c0_i32_28 c1_i32_30 k0_t4
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t5_loop : Scf.Loop 32 :=
  let c0_i32_38 : BitVec 32 := 0#32
  let c64_i32_39 : BitVec 32 := 64#32
  let v205 : BitVec 32 := Scalar.addi c0_i32_38 c64_i32_39
  let c1_i32_40 : BitVec 32 := 1#32
  ⟨c0_i32_38, v205, c1_i32_40⟩
def k0_off10 (k0_t5 : Fin k0_t5_loop.trips) (c0_i32_221 : BitVec 32) : Fin 1 → Nat :=
  let c0_i32_38 : BitVec 32 := 0#32
  let c1_i32_40 : BitVec 32 := 1#32
  let arg67 : BitVec 32 := Scf.iv c0_i32_38 c1_i32_40 k0_t5
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t6_loop : Scf.Loop 32 :=
  let c0_i32_48 : BitVec 32 := 0#32
  let c64_i32_49 : BitVec 32 := 64#32
  let v240 : BitVec 32 := Scalar.addi c0_i32_48 c64_i32_49
  let c1_i32_50 : BitVec 32 := 1#32
  ⟨c0_i32_48, v240, c1_i32_50⟩
def k0_off11 (k0_t6 : Fin k0_t6_loop.trips) (c0_i32_221 : BitVec 32) : Fin 1 → Nat :=
  let c0_i32_48 : BitVec 32 := 0#32
  let c1_i32_50 : BitVec 32 := 1#32
  let arg67 : BitVec 32 := Scf.iv c0_i32_48 c1_i32_50 k0_t6
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t7_loop : Scf.Loop 32 :=
  let c0_i32_62 : BitVec 32 := 0#32
  let c64_i32_63 : BitVec 32 := 64#32
  let v291 : BitVec 32 := Scalar.addi c0_i32_62 c64_i32_63
  let c1_i32_64 : BitVec 32 := 1#32
  ⟨c0_i32_62, v291, c1_i32_64⟩
def k0_off12 (k0_t7 : Fin k0_t7_loop.trips) (c0_i32_221 : BitVec 32) : Fin 1 → Nat :=
  let c0_i32_62 : BitVec 32 := 0#32
  let c1_i32_64 : BitVec 32 := 1#32
  let arg67 : BitVec 32 := Scf.iv c0_i32_62 c1_i32_64 k0_t7
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t8_loop : Scf.Loop 32 :=
  let c0_i32_76 : BitVec 32 := 0#32
  let c64_i32_77 : BitVec 32 := 64#32
  let v342 : BitVec 32 := Scalar.addi c0_i32_76 c64_i32_77
  let c1_i32_78 : BitVec 32 := 1#32
  ⟨c0_i32_76, v342, c1_i32_78⟩
def k0_off13 (k0_t8 : Fin k0_t8_loop.trips) (c0_i32_221 : BitVec 32) : Fin 1 → Nat :=
  let c0_i32_76 : BitVec 32 := 0#32
  let c1_i32_78 : BitVec 32 := 1#32
  let arg67 : BitVec 32 := Scf.iv c0_i32_76 c1_i32_78 k0_t8
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t9_loop : Scf.Loop 32 :=
  let c0_i32_90 : BitVec 32 := 0#32
  let c64_i32_91 : BitVec 32 := 64#32
  let v393 : BitVec 32 := Scalar.addi c0_i32_90 c64_i32_91
  let c1_i32_92 : BitVec 32 := 1#32
  ⟨c0_i32_90, v393, c1_i32_92⟩
def k0_off14 (k0_t9 : Fin k0_t9_loop.trips) (c0_i32_221 : BitVec 32) : Fin 1 → Nat :=
  let c0_i32_90 : BitVec 32 := 0#32
  let c1_i32_92 : BitVec 32 := 1#32
  let arg67 : BitVec 32 := Scf.iv c0_i32_90 c1_i32_92 k0_t9
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t10_loop : Scf.Loop 32 :=
  let c0_i32_104 : BitVec 32 := 0#32
  let c64_i32_105 : BitVec 32 := 64#32
  let v444 : BitVec 32 := Scalar.addi c0_i32_104 c64_i32_105
  let c1_i32_106 : BitVec 32 := 1#32
  ⟨c0_i32_104, v444, c1_i32_106⟩
def k0_off15 (k0_t10 : Fin k0_t10_loop.trips) (c0_i32_221 : BitVec 32) : Fin 1 → Nat :=
  let c0_i32_104 : BitVec 32 := 0#32
  let c1_i32_106 : BitVec 32 := 1#32
  let arg67 : BitVec 32 := Scf.iv c0_i32_104 c1_i32_106 k0_t10
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t11_loop : Scf.Loop 32 :=
  let c0_i32_118 : BitVec 32 := 0#32
  let c64_i32_119 : BitVec 32 := 64#32
  let v495 : BitVec 32 := Scalar.addi c0_i32_118 c64_i32_119
  let c1_i32_120 : BitVec 32 := 1#32
  ⟨c0_i32_118, v495, c1_i32_120⟩
def k0_off16 (k0_t11 : Fin k0_t11_loop.trips) (c0_i32_221 : BitVec 32) : Fin 1 → Nat :=
  let c0_i32_118 : BitVec 32 := 0#32
  let c1_i32_120 : BitVec 32 := 1#32
  let arg67 : BitVec 32 := Scf.iv c0_i32_118 c1_i32_120 k0_t11
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t12_loop : Scf.Loop 32 :=
  let c0_i32_132 : BitVec 32 := 0#32
  let c64_i32_133 : BitVec 32 := 64#32
  let v537 : BitVec 32 := Scalar.addi c0_i32_132 c64_i32_133
  let c1_i32_134 : BitVec 32 := 1#32
  ⟨c0_i32_132, v537, c1_i32_134⟩
def k0_off17 (k0_t12 : Fin k0_t12_loop.trips) (c0_i32_221 : BitVec 32) : Fin 1 → Nat :=
  let c0_i32_132 : BitVec 32 := 0#32
  let c1_i32_134 : BitVec 32 := 1#32
  let arg67 : BitVec 32 := Scf.iv c0_i32_132 c1_i32_134 k0_t12
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t13_loop : Scf.Loop 32 :=
  let c0_i32_146 : BitVec 32 := 0#32
  let c64_i32_147 : BitVec 32 := 64#32
  let v579 : BitVec 32 := Scalar.addi c0_i32_146 c64_i32_147
  let c1_i32_148 : BitVec 32 := 1#32
  ⟨c0_i32_146, v579, c1_i32_148⟩
def k0_off18 (k0_t13 : Fin k0_t13_loop.trips) (c0_i32_221 : BitVec 32) : Fin 1 → Nat :=
  let c0_i32_146 : BitVec 32 := 0#32
  let c1_i32_148 : BitVec 32 := 1#32
  let arg67 : BitVec 32 := Scf.iv c0_i32_146 c1_i32_148 k0_t13
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t14_loop : Scf.Loop 32 :=
  let c0_i32_160 : BitVec 32 := 0#32
  let c64_i32_161 : BitVec 32 := 64#32
  let v621 : BitVec 32 := Scalar.addi c0_i32_160 c64_i32_161
  let c1_i32_162 : BitVec 32 := 1#32
  ⟨c0_i32_160, v621, c1_i32_162⟩
def k0_off19 (k0_t14 : Fin k0_t14_loop.trips) (c0_i32_221 : BitVec 32) : Fin 1 → Nat :=
  let c0_i32_160 : BitVec 32 := 0#32
  let c1_i32_162 : BitVec 32 := 1#32
  let arg67 : BitVec 32 := Scf.iv c0_i32_160 c1_i32_162 k0_t14
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t15_loop : Scf.Loop 32 :=
  let c0_i32_174 : BitVec 32 := 0#32
  let c64_i32_175 : BitVec 32 := 64#32
  let v663 : BitVec 32 := Scalar.addi c0_i32_174 c64_i32_175
  let c1_i32_176 : BitVec 32 := 1#32
  ⟨c0_i32_174, v663, c1_i32_176⟩
def k0_off20 (k0_t15 : Fin k0_t15_loop.trips) (c0_i32_221 : BitVec 32) : Fin 1 → Nat :=
  let c0_i32_174 : BitVec 32 := 0#32
  let c1_i32_176 : BitVec 32 := 1#32
  let arg67 : BitVec 32 := Scf.iv c0_i32_174 c1_i32_176 k0_t15
  let c32_i32 : BitVec 32 := 32#32
  let v819 : BitVec 32 := Scalar.muli arg67 c32_i32
  let v820 : BitVec 32 := Scalar.addi v819 c0_i32_221
  let v821 : Index := Scalar.indexCast v820
  ![v821.toNat]
@[reducible] def k0_t16_loop : Scf.Loop 32 :=
  let c0_i32_188 : BitVec 32 := 0#32
  let c64_i32_189 : BitVec 32 := 64#32
  let v705 : BitVec 32 := Scalar.addi c0_i32_188 c64_i32_189
  let c1_i32_190 : BitVec 32 := 1#32
  ⟨c0_i32_188, v705, c1_i32_190⟩
def k0_off21 (k0_t16 : Fin k0_t16_loop.trips) (c0_i32_221 : BitVec 32) : Fin 1 → Nat :=
  let c0_i32_188 : BitVec 32 := 0#32
  let c1_i32_190 : BitVec 32 := 1#32
  let arg67 : BitVec 32 := Scf.iv c0_i32_188 c1_i32_190 k0_t16
  let c32_i32 : BitVec 32 := 32#32
  let v819 : BitVec 32 := Scalar.muli arg67 c32_i32
  let v820 : BitVec 32 := Scalar.addi v819 c0_i32_221
  let v821 : Index := Scalar.indexCast v820
  ![v821.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576 : Shape := ⟨1, ![1048576]⟩
abbrev S1048576x1 : Shape := ⟨2, ![1048576, 1]⟩
abbrev S1048576x4 : Shape := ⟨2, ![1048576, 4]⟩
abbrev S4x1048576 : Shape := ⟨2, ![4, 1048576]⟩

abbrev nBuf : Space → Nat
  | .hbm => 11
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S1048576, .f32⟩
  | .hbm, ⟨3, _⟩ => ⟨S1048576, .f32⟩
  | .hbm, ⟨4, _⟩ => ⟨S1048576x1, .f32⟩
  | .hbm, ⟨5, _⟩ => ⟨S1048576x1, .f32⟩
  | .hbm, ⟨6, _⟩ => ⟨S1048576x1, .f32⟩
  | .hbm, ⟨7, _⟩ => ⟨S1048576x1, .f32⟩
  | .hbm, ⟨8, _⟩ => ⟨S1048576x4, .f32⟩
  | .hbm, ⟨9, _⟩ => ⟨S1048576x4, .f32⟩
  | .hbm, ⟨10, _⟩ => ⟨S4x1048576, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Text.lean ====
/-
  The kernel's text, said in the pieces that it repeats. A subcore handles sixteen chunks of 2048 columns, six chunks in flight
  at once; chunk `k` uses set `k % 6` of eight buffers and two semaphores. `Text.whole` is the body written with one definition
  for each piece of that work: start a chunk's four fetches, wait for them, sort the chunk, start its four write-outs,
  wait for them. `body_eq` says that the printed body is that text; everything after this file is proved about the pieces.
-/
module

public import proofs.«01_k».proof.Defs
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Text

open Cert.KernelIdeal Cert.KernelIdeal.Gen
open Idealize.ShloMosaic Idealize.SL.Sem

variable {F : FTy → Type} [FloatOps F]

/-- A memref of a chunk's 2048 values in a subcore's own memory. -/
abbrev Near := Memref sig .scVector .vmem S2048 .f32
/-- A memref of a chunk's 2048 values in the device's memory. -/
abbrev Far := Memref sig .scVector .hbm S2048 .f32
/-- The programs of the vector subcore at grid point `L`. -/
abbrev TileProg (F : FTy → Type) (L : grid0.Coords) (α : Type) : Type 1 :=
  Prog (TpuEff nD τ sig (Elt F) Λ₀ (.scVector ((L 0).castLE hcore0) ((L 1).castLE hsub0))) α

/-! ## The memrefs -/

/-- The kernel's four arguments. -/
def argM : Fin 4 → Memref sig .scVector .hbm S1048576 .f32
  | 0 => Memref.whole main_arg0_scv | 1 => Memref.whole main_arg1_scv
  | 2 => Memref.whole main_arg2_scv | 3 => Memref.whole main_arg3_scv

/-- The kernel's result. -/
abbrev resM : Memref sig .scVector .hbm S4x1048576 .f32 := Memref.whole main_v0_scv

/-- The buffers that set `st` fetches into, one for each argument. -/
def inB : Fin 6 → Fin 4 → Near
  | 0, 0 => Memref.whole cc0_scratch0 | 0, 1 => Memref.whole cc0_scratch1 | 0, 2 => Memref.whole cc0_scratch2 | 0, 3 => Memref.whole cc0_scratch3
  | 1, 0 => Memref.whole cc0_scratch4 | 1, 1 => Memref.whole cc0_scratch5 | 1, 2 => Memref.whole cc0_scratch6 | 1, 3 => Memref.whole cc0_scratch7
  | 2, 0 => Memref.whole cc0_scratch8 | 2, 1 => Memref.whole cc0_scratch9 | 2, 2 => Memref.whole cc0_scratch10 | 2, 3 => Memref.whole cc0_scratch11
  | 3, 0 => Memref.whole cc0_scratch12 | 3, 1 => Memref.whole cc0_scratch13 | 3, 2 => Memref.whole cc0_scratch14 | 3, 3 => Memref.whole cc0_scratch15
  | 4, 0 => Memref.whole cc0_scratch16 | 4, 1 => Memref.whole cc0_scratch17 | 4, 2 => Memref.whole cc0_scratch18 | 4, 3 => Memref.whole cc0_scratch19
  | 5, 0 => Memref.whole cc0_scratch20 | 5, 1 => Memref.whole cc0_scratch21 | 5, 2 => Memref.whole cc0_scratch22 | 5, 3 => Memref.whole cc0_scratch23

/-- The buffers that set `st` writes out from, one for each row of the result. -/
def outB : Fin 6 → Fin 4 → Near
  | 0, 0 => Memref.whole cc0_scratch24 | 0, 1 => Memref.whole cc0_scratch25 | 0, 2 => Memref.whole cc0_scratch26 | 0, 3 => Memref.whole cc0_scratch27
  | 1, 0 => Memref.whole cc0_scratch28 | 1, 1 => Memref.whole cc0_scratch29 | 1, 2 => Memref.whole cc0_scratch30 | 1, 3 => Memref.whole cc0_scratch31
  | 2, 0 => Memref.whole cc0_scratch32 | 2, 1 => Memref.whole cc0_scratch33 | 2, 2 => Memref.whole cc0_scratch34 | 2, 3 => Memref.whole cc0_scratch35
  | 3, 0 => Memref.whole cc0_scratch36 | 3, 1 => Memref.whole cc0_scratch37 | 3, 2 => Memref.whole cc0_scratch38 | 3, 3 => Memref.whole cc0_scratch39
  | 4, 0 => Memref.whole cc0_scratch40 | 4, 1 => Memref.whole cc0_scratch41 | 4, 2 => Memref.whole cc0_scratch42 | 4, 3 => Memref.whole cc0_scratch43
  | 5, 0 => Memref.whole cc0_scratch44 | 5, 1 => Memref.whole cc0_scratch45 | 5, 2 => Memref.whole cc0_scratch46 | 5, 3 => Memref.whole cc0_scratch47

/-- The semaphore of set `st`'s fetches. -/
def inS : Fin 6 → DmaSem sig
  | 0 => cc0_scratch48.sem | 1 => cc0_scratch49.sem | 2 => cc0_scratch50.sem | 3 => cc0_scratch51.sem | 4 => cc0_scratch52.sem | 5 => cc0_scratch53.sem

/-- The semaphore of set `st`'s write-outs. -/
def outS : Fin 6 → DmaSem sig
  | 0 => cc0_scratch54.sem | 1 => cc0_scratch55.sem | 2 => cc0_scratch56.sem | 3 => cc0_scratch57.sem | 4 => cc0_scratch58.sem | 5 => cc0_scratch59.sem

theorem inB_whole (st : Fin 6) (j : Fin 4) : (inB st j).IsWhole := by
  fin_cases st <;> fin_cases j <;> exact Memref.isWhole_whole _

theorem outB_whole (st : Fin 6) (j : Fin 4) : (outB st j).IsWhole := by
  fin_cases st <;> fin_cases j <;> exact Memref.isWhole_whole _

/-- Chunk `k` of argument `j`, as the subcore at `L` slices it. -/
def src (L : grid0.Coords) (k : Fin 16) (j : Fin 4) : Far :=
  (argM j).slice (Rect.unit (s := S1048576) (k0_off1 L (BitVec.ofNat 32 (2048 * k.val))) S2048.size (k0_off1_inb L k)) (fun _ => rfl)

/-- Where chunk `k` starts in row `j` of the result, as the subcore at `L` computes it. -/
def dstOff (L : grid0.Coords) (k : Fin 16) : Fin 4 → Fin 2 → Nat
  | 0 => k0_off3 L (BitVec.ofNat 32 (2048 * k.val)) | 1 => k0_off4 L (BitVec.ofNat 32 (2048 * k.val))
  | 2 => k0_off5 L (BitVec.ofNat 32 (2048 * k.val)) | 3 => k0_off6 L (BitVec.ofNat 32 (2048 * k.val))

theorem dstOff_inb (L : grid0.Coords) (k : Fin 16) : ∀ (j : Fin 4) (a : Fin 2), dstOff L k j a + S1x2048.size a ≤ S4x1048576.size a
  | 0 => k0_off3_inb L k | 1 => k0_off4_inb L k | 2 => k0_off5_inb L k | 3 => k0_off6_inb L k

/-- Chunk `k` of row `j` of the result, as the subcore at `L` slices it. -/
def dst (L : grid0.Coords) (k : Fin 16) (j : Fin 4) : Far :=
  (resM.slice (Rect.unit (s := S4x1048576) (dstOff L k j) S1x2048.size (dstOff_inb L k j)) (fun _ => rfl)).squeeze S2048 squeezes_S1x2048_S2048

theorem src_exact (L : grid0.Coords) (k : Fin 16) (j : Fin 4) : (src L k j).view.WordExact := View.wordExact_bits rfl
theorem dst_exact (L : grid0.Coords) (k : Fin 16) (j : Fin 4) : (dst L k j).view.WordExact := (View.wordExact_bits rfl).reshape _ _

/-! ## The pieces -/

variable (L : grid0.Coords)

/-- Start the fetch of chunk `k` of argument `j` into set `st`. -/
def fetch (st : Fin 6) (k : Fin 16) (j : Fin 4) : TileProg F L PUnit :=
  Prog.lift (.enqueueDma (src L k j) (.here (inB st j)) (.dma (inS st)) (src_exact L k j) (inB_whole st j).wordExact ⟨Or.inl rfl, trivial⟩)

/-- Wait for one of set `st`'s fetches. -/
def fetched (st : Fin 6) (k : Fin 16) (j : Fin 4) : TileProg F L PUnit :=
  Prog.lift (.waitDma2 (inS st) (src L k j) (inB st j) (src_exact L k j) (inB_whole st j).wordExact)

/-- Start the write-out of chunk `k` of row `j` from set `st`. -/
def put (st : Fin 6) (k : Fin 16) (j : Fin 4) : TileProg F L PUnit :=
  Prog.lift (.enqueueDma (outB st j) (.here (dst L k j)) (.dma (outS st)) (outB_whole st j).wordExact (dst_exact L k j) ⟨Or.inl rfl, trivial⟩)

/-- Wait for one of set `st`'s write-outs. -/
def putDone (st : Fin 6) (k : Fin 16) (j : Fin 4) : TileProg F L PUnit :=
  Prog.lift (.waitDma2 (outS st) (outB st j) (dst L k j) (outB_whole st j).wordExact (dst_exact L k j))

/-- One piece for each of the four arguments (or rows), in order. -/
def all4 (p : Fin 4 → TileProg F L PUnit) : TileProg F L PUnit := do
  p 0; p 1; p 2; p 3

/-- The 16 values of the buffer `b` from where the sorting loop's trip `t` reads its half `h`. -/
abbrev lanes (t : Fin k0_t1_loop.trips) (h : Fin 2) : Rect S2048 :=
  Rect.unit (s := S2048) (k0_off2 t (BitVec.ofNat 32 (16 * h.val))) S16.size (k0_off2_inb t h)

/-- What the sorting loop stores to row `j`, from the four vectors that it read: the comparisons of a sorting network of four. -/
def sorted4 (a b c d : Vec F S16 .f32) : Fin 4 → FVec F S16 .f32 :=
  let a' := shapeCast S16 a shapeCasts_S16_S16
  let b' := shapeCast S16 b shapeCasts_S16_S16
  let c' := shapeCast S16 c shapeCasts_S16_S16
  let d' := shapeCast S16 d shapeCasts_S16_S16
  let m₁ := maximumf (minimumf a' b') (minimumf c' d')
  let m₂ := minimumf (maximumf a' b') (maximumf c' d')
  fun
  | 0 => shapeCast S16 (minimumf (minimumf a' b') (minimumf c' d')) shapeCasts_S16_S16
  | 1 => shapeCast S16 (minimumf m₁ m₂) shapeCasts_S16_S16
  | 2 => shapeCast S16 (maximumf m₁ m₂) shapeCasts_S16_S16
  | 3 => shapeCast S16 (maximumf (maximumf a' b') (maximumf c' d')) shapeCasts_S16_S16

/-- A read of the sorting loop. -/
def get (b : Near) (t : Fin k0_t1_loop.trips) (h : Fin 2) : TileProg F L (Vec F S16 .f32) :=
  Prog.lift (.load b (lanes t h).toLoadRect (View.loadsAt_vmem h_S16))

/-- A write of the sorting loop: the place is read first, and what it held is dropped. -/
def set (b : Near) (t : Fin k0_t1_loop.trips) (h : Fin 2) (w : FVec F S16 .f32) : TileProg F L PUnit := do
  let _ ← get L b t h
  Prog.lift (.store b (lanes t h) w Finset.univ (View.stores_vmem_bits_univ h_S16 rfl) (.inl rfl))

/-- Half `h` of trip `t` of set `st`'s sorting loop: 16 columns. -/
def half (st : Fin 6) (t : Fin k0_t1_loop.trips) (h : Fin 2) : TileProg F L PUnit := do
  let a ← get L (inB st 0) t h
  let b ← get L (inB st 1) t h
  let c ← get L (inB st 2) t h
  let d ← get L (inB st 3) t h
  set L (outB st 0) t h (sorted4 a b c d 0)
  set L (outB st 1) t h (sorted4 a b c d 1)
  set L (outB st 2) t h (sorted4 a b c d 2)
  set L (outB st 3) t h (sorted4 a b c d 3)

/-- Trip `t` of set `st`'s sorting loop: 32 columns. -/
def trip (st : Fin 6) (t : Fin k0_t1_loop.trips) (_ : Unit) : TileProg F L Unit := do
  half L st t 0
  half L st t 1
  pure ⟨⟩

/-- Sort the chunk in set `st`: 64 trips. -/
def sort (st : Fin 6) : TileProg F L Unit := Scf.Loop.for k0_t1_loop k0_t1_ok ⟨⟩ (trip L st)

/-- The body: six chunks' fetches; chunks 0 to 5, each starting the fetch six chunks on into its own set; chunks 6 to 9, each
    first waiting for its set's previous write-out; chunks 10 to 15, with no chunk left to fetch; the last six write-outs. -/
def first (k : Fin 16) (st : Fin 6) (k' : Fin 16) : TileProg F L PUnit := do
  all4 L (fetched L st k); sort L st; all4 L (fetch L st k'); all4 L (put L st k)
/-- A chunk in the middle: `k₀` is the chunk that the set wrote out before, `k'` the one it fetches next. -/
def middle (k : Fin 16) (st : Fin 6) (k₀ k' : Fin 16) : TileProg F L PUnit := do
  all4 L (fetched L st k); all4 L (putDone L st k₀); sort L st; all4 L (fetch L st k'); all4 L (put L st k)
/-- A chunk with nothing more to fetch into its set. -/
def last (k : Fin 16) (st : Fin 6) (k₀ : Fin 16) : TileProg F L PUnit := do
  all4 L (fetched L st k); all4 L (putDone L st k₀); sort L st; all4 L (put L st k)

/-- The whole body. -/
def whole : TileProg F L PUnit := do
  all4 L (fetch L 0 0); all4 L (fetch L 1 1); all4 L (fetch L 2 2); all4 L (fetch L 3 3); all4 L (fetch L 4 4); all4 L (fetch L 5 5)
  first L 0 0 6; first L 1 1 7; first L 2 2 8; first L 3 3 9; first L 4 4 10; first L 5 5 11
  middle L 6 0 0 12; middle L 7 1 1 13; middle L 8 2 2 14; middle L 9 3 3 15
  last L 10 4 4; last L 11 5 5; last L 12 0 6; last L 13 1 7; last L 14 2 8; last L 15 3 9
  all4 L (putDone L 0 12); all4 L (putDone L 1 13); all4 L (putDone L 2 14); all4 L (putDone L 3 15)
  all4 L (putDone L 4 10); all4 L (putDone L 5 11)

set_option maxHeartbeats 0 in
/-- The printed body, at the buffers and semaphores that it is called with, is that text. -/
theorem body_eq :
    (cc0__body (F := F) L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _) (Memref.whole cc0_scratch7) (Memref.isWhole_whole _)
      (Memref.whole cc0_scratch8) (Memref.isWhole_whole _) (Memref.whole cc0_scratch9) (Memref.isWhole_whole _) (Memref.whole cc0_scratch10) (Memref.isWhole_whole _) (Memref.whole cc0_scratch11) (Memref.isWhole_whole _)
      (Memref.whole cc0_scratch12) (Memref.isWhole_whole _) (Memref.whole cc0_scratch13) (Memref.isWhole_whole _) (Memref.whole cc0_scratch14) (Memref.isWhole_whole _) (Memref.whole cc0_scratch15) (Memref.isWhole_whole _)
      (Memref.whole cc0_scratch16) (Memref.isWhole_whole _) (Memref.whole cc0_scratch17) (Memref.isWhole_whole _) (Memref.whole cc0_scratch18) (Memref.isWhole_whole _) (Memref.whole cc0_scratch19) (Memref.isWhole_whole _)
      (Memref.whole cc0_scratch20) (Memref.isWhole_whole _) (Memref.whole cc0_scratch21) (Memref.isWhole_whole _) (Memref.whole cc0_scratch22) (Memref.isWhole_whole _) (Memref.whole cc0_scratch23) (Memref.isWhole_whole _)
      (Memref.whole cc0_scratch24) (Memref.isWhole_whole _) (Memref.whole cc0_scratch25) (Memref.isWhole_whole _) (Memref.whole cc0_scratch26) (Memref.isWhole_whole _) (Memref.whole cc0_scratch27) (Memref.isWhole_whole _)
      (Memref.whole cc0_scratch28) (Memref.isWhole_whole _) (Memref.whole cc0_scratch29) (Memref.isWhole_whole _) (Memref.whole cc0_scratch30) (Memref.isWhole_whole _) (Memref.whole cc0_scratch31) (Memref.isWhole_whole _)
      (Memref.whole cc0_scratch32) (Memref.isWhole_whole _) (Memref.whole cc0_scratch33) (Memref.isWhole_whole _) (Memref.whole cc0_scratch34) (Memref.isWhole_whole _) (Memref.whole cc0_scratch35) (Memref.isWhole_whole _)
      (Memref.whole cc0_scratch36) (Memref.isWhole_whole _) (Memref.whole cc0_scratch37) (Memref.isWhole_whole _) (Memref.whole cc0_scratch38) (Memref.isWhole_whole _) (Memref.whole cc0_scratch39) (Memref.isWhole_whole _)
      (Memref.whole cc0_scratch40) (Memref.isWhole_whole _) (Memref.whole cc0_scratch41) (Memref.isWhole_whole _) (Memref.whole cc0_scratch42) (Memref.isWhole_whole _) (Memref.whole cc0_scratch43) (Memref.isWhole_whole _)
      (Memref.whole cc0_scratch44) (Memref.isWhole_whole _) (Memref.whole cc0_scratch45) (Memref.isWhole_whole _) (Memref.whole cc0_scratch46) (Memref.isWhole_whole _) (Memref.whole cc0_scratch47) (Memref.isWhole_whole _)
      cc0_scratch48 cc0_scratch49 cc0_scratch50 cc0_scratch51 cc0_scratch52 cc0_scratch53 cc0_scratch54 cc0_scratch55 cc0_scratch56 cc0_scratch57 cc0_scratch58 cc0_scratch59) = whole L := by
  simp only [cc0__body_eq_skeleton, cc0__body_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel,
    whole, first, middle, last, all4, Prog.bind_assoc, Prog.bind_lift, Prog.bind_op, Prog.bind_ret, Prog.pure_eq_ret]
  rfl

end Cert.Proof.Text

end
-- ==== Proof.Base.lean ====
/-
  What the proof is stated over: the program as the launch theorem sees it, the resource algebra, and the value that the
  kernel computes, `net`, for one column: the five comparisons of a sorting network of four. All of it is for any floating-point
  interpretation `F`, so that one run serves both the kernel on words and the kernel over the extended reals.
-/
module

public import proofs.«01_k».proof.Proof.Text
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Pipeline.Value

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes beside the counters of the copies -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The counters of the copies in flight. -/
abbrev EC : UEmb Counters (MT nD τ sig (HIx 1) (Elt F) ℕ UU ℕ) := countersEmb

/-- The SparseCore and the subcore of a grid point, and its thread on device `d`. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

/-! ## The value of a column -/

/-- The four values of a column, put in order: row `j` of the result. -/
def net [FloatOps F] (v : Fin 4 → F .f32) : Fin 4 → F .f32 :=
  let m₁ := FloatOps.maximumf (FloatOps.minimumf (v 0) (v 1)) (FloatOps.minimumf (v 2) (v 3))
  let m₂ := FloatOps.minimumf (FloatOps.maximumf (v 0) (v 1)) (FloatOps.maximumf (v 2) (v 3))
  fun
  | 0 => FloatOps.minimumf (FloatOps.minimumf (v 0) (v 1)) (FloatOps.minimumf (v 2) (v 3))
  | 1 => FloatOps.minimumf m₁ m₂
  | 2 => FloatOps.maximumf m₁ m₂
  | 3 => FloatOps.maximumf (FloatOps.maximumf (v 0) (v 1)) (FloatOps.maximumf (v 2) (v 3))

theorem shapeCast_lanes {α : Type} (v : S16.Idx → α) : shapeCast S16 v shapeCasts_S16_S16 = v :=
  shapeCast_self v _

/-- The sorting loop's vector comparisons are `net`, lane by lane. -/
theorem sorted4_apply [FloatOps F] (w : Fin 4 → Vec F S16 .f32) (j : Fin 4) (x : S16.Idx) :
    Text.sorted4 (w 0) (w 1) (w 2) (w 3) j x = net (fun l => w l x) j := by
  unfold Text.sorted4 net
  simp only [shapeCast_lanes]
  fin_cases j <;> rfl

end Cert.Proof

end
-- ==== Proof.Copies.lean ====
/-
  A set of buffers moves a chunk by four copies on one semaphore, all started before the first wait. The four are one batch:
  the first three waits give nothing back, the fourth gives all four destinations, written, and all four sources. `start4`
  and `wait4` say this for any four memrefs; the fetches and the write-outs of every set are instances.
-/
module

public import proofs.«01_k».proof.Proof.Base

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem bigSep_four (Φ : Fin 4 → sProp 𝕄) : bigSep Finset.univ Φ = iprop(Φ 0 ∗ Φ 1 ∗ Φ 2 ∗ Φ 3) := by
  rw [Transfers.bigSep_pending_zero, Transfers.bigSep_pending_step Φ 0 (by decide), Transfers.bigSep_pending_step Φ 1 (by decide),
    Transfers.bigSep_pending_step Φ 2 (by decide), Transfers.bigSep_pending_last Φ 3 (by decide) rfl]
  rfl

/-- The waits of a thread at hand: what it owes is the launch's `O`, and every wait recorded beyond `W` is of its own copies. -/
def waits (thr : Thread nD τ) (O : CellTallies nD τ sig (HIx 1)) (W : Waits sig (HIx 1)) : sProp 𝕄 :=
  iprop(∃ W', ⌜∀ p ∈ W', p ∈ W ∨ p.2 = none⌝ ∗ owes thr O W')

section Four

variable (d : Dev nD) (L : grid0.Coords) {sp sp' : Space}
variable (s : Fin 4 → Memref sig .scVector sp S2048 .f32) (t : Fin 4 → Memref sig .scVector sp' S2048 .f32)

/-- Buffer `j` of four, held at `f`. -/
abbrev pts (b : Memref sig .scVector sp S2048 .f32) (f : Buf (Elt F) (b.view.loc (tile d L))) : sProp 𝕄 :=
  b.view.loc (tile d L) ↦[b.view.set]{fullShare} f

/-- What copy `j` delivers: its destination, reading as its source does, and its source back. -/
def delivered (fs : (j : Fin 4) → Buf (Elt F) ((s j).view.loc (tile d L))) (j : Fin 4) : sProp 𝕄 :=
  iprop((∃ f, ⌜(t j).view.read (Elt F) f = (s j).view.read (Elt F) (fs j)⌝ ∗ pts d L (t j) f) ∗ pts d L (s j) (fs j))

instance (fs : (j : Fin 4) → Buf (Elt F) ((s j).view.loc (tile d L))) (j : Fin 4) :
    BI.Storable (upEmb : UEmb _ 𝕄) (delivered d L s t fs j) := by unfold delivered; infer_instance

/-- Four copies in flight on semaphore `sm`, of `N` units each. -/
def inFlight (sm : DmaSem sig) (N : ℕ) (fs : (j : Fin 4) → Buf (Elt F) ((s j).view.loc (tile d L))) : sProp 𝕄 :=
  Transfers.Batch (EC (F := F)) (tile d L) (.dma sm) none N (delivered d L s t fs) 4 0

variable {s t} {sm : DmaSem sig} {N : ℕ}
variable (hs : ∀ j, (s j).view.WordExact) (ht : ∀ j, (t j).view.WordExact)

/-- Starting four copies. -/
theorem start4 {Φ : PUnit → sProp 𝕄} (htyp : ∀ j, DmaTarget.Typed (nD := nD) sp (.dma sm) (.here (τ := τ) (p := (tile d L).2) (t j)))
    (hN : ∀ j, (t j).view.dmaCredit = N) (fs : (j : Fin 4) → Buf (Elt F) ((s j).view.loc (tile d L)))
    (p : Fin 4 → Text.TileProg F L PUnit)
    (hp : ∀ j, p j = Prog.lift (.enqueueDma (s j) (.here (t j)) (.dma sm) (hs j) (ht j) (htyp j))) :
    iprop((bigSep Finset.univ fun j => pts d L (s j) (fs j)) ∗ (bigSep Finset.univ fun j => iprop(∃ f, pts d L (t j) f))
        ∗ semVal (tile d L, .dma sm) 0)
      ⊢ iprop((inFlight d L s t sm N fs -∗ Φ PUnit.unit)
          -∗ wp frame (wpE (defs₀ (F := F)) 𝒱₀ (tile d L) none) Set.univ (Text.all4 L p) Φ) := by
  have hD : ∀ (j : Fin 4) (fd : Buf (Elt F) ((t j).view.loc (tile d L))),
      iprop(((t j).view.loc (tile d L) ↦[(t j).view.set]{fullShare}
            ((t j).view.write (Elt F) fd (ReadAs.same.apply ((s j).view.read (Elt F) (fs j))) Finset.univ))
          ∗ ((s j).view.loc (tile d L) ↦[(s j).view.set]{fullShare} fs j)) ⊢ (delivered d L s t fs j : sProp 𝕄) := by
    intro j fd
    unfold delivered
    iintro ⟨Ht, Hs⟩
    isplitl [Ht]
    · iexists _
      isplitr
      · ipureintro; exact View.read_write_univ (v := (t j).view) fd _
      · iexact Ht
    · iexact Hs
  rw [bigSep_four, bigSep_four]
  unfold Text.all4
  simp only [hp, Prog.lift, Prog.bind_op, Prog.bind_ret]
  iintro ⟨⟨Hs0, Hs1, Hs2, Hs3⟩, ⟨⟨%f0, Ht0⟩, ⟨%f1, Ht1⟩, ⟨%f2, Ht2⟩, ⟨%f3, Ht3⟩⟩, Hv⟩ Hk
  imod (Transfers.batch_alloc' (EC (F := F)) (tile d L) none N (delivered d L s t fs)) $$ Hv with HB
  iapply (Transfers.wp_dmaBatch (EC (F := F)) 𝒱₀ (tile d L) none (dst := t 0) (sm := .dma sm) (D := delivered d L s t fs) (u := 0) none N (hN 0) (Finset.Subset.refl _) (show 0 < 4 by decide) (Nat.zero_le _) (hD 0 f0)) $$ [Hs0 Ht0 HB]
  · isplitl [Hs0]; · iexact Hs0
    isplitl [Ht0]; · iexact Ht0
    iexact HB
  iintro HB
  iapply (Transfers.wp_dmaBatch (EC (F := F)) 𝒱₀ (tile d L) none (dst := t 1) (sm := .dma sm) (D := delivered d L s t fs) (u := 0) none N (hN 1) (Finset.Subset.refl _) (show 1 < 4 by decide) (Nat.zero_le _) (hD 1 f1)) $$ [Hs1 Ht1 HB]
  · isplitl [Hs1]; · iexact Hs1
    isplitl [Ht1]; · iexact Ht1
    iexact HB
  iintro HB
  iapply (Transfers.wp_dmaBatch (EC (F := F)) 𝒱₀ (tile d L) none (dst := t 2) (sm := .dma sm) (D := delivered d L s t fs) (u := 0) none N (hN 2) (Finset.Subset.refl _) (show 2 < 4 by decide) (Nat.zero_le _) (hD 2 f2)) $$ [Hs2 Ht2 HB]
  · isplitl [Hs2]; · iexact Hs2
    isplitl [Ht2]; · iexact Ht2
    iexact HB
  iintro HB
  iapply (Transfers.wp_dmaBatch (EC (F := F)) 𝒱₀ (tile d L) none (dst := t 3) (sm := .dma sm) (D := delivered d L s t fs) (u := 0) none N (hN 3) (Finset.Subset.refl _) (show 3 < 4 by decide) (Nat.zero_le _) (hD 3 f3)) $$ [Hs3 Ht3 HB]
  · isplitl [Hs3]; · iexact Hs3
    isplitl [Ht3]; · iexact Ht3
    iexact HB
  iintro HB
  rw [wp_ret]
  imodintro
  iapply Hk
  unfold inFlight
  iexact HB

/-- Waiting for four copies. -/
theorem wait4 {Φ : PUnit → sProp 𝕄} (hN : ∀ j, (t j).view.dmaCredit = N) (hN0 : 0 < N) (fs : (j : Fin 4) → Buf (Elt F) ((s j).view.loc (tile d L)))
    {O : CellTallies nD τ sig (HIx 1)} (W : Waits sig (HIx 1)) (hO : ∀ g, O g none = 0) (p : Fin 4 → Text.TileProg F L PUnit)
    (hp : ∀ j, p j = Prog.lift (.waitDma2 sm (s j) (t j) (hs j) (ht j))) :
    iprop(levAts (K (F := F)).L (K (F := F)).lev ∗ inFlight d L s t sm N fs ∗ waits (tile d L) O W)
      ⊢ iprop((((bigSep Finset.univ fun j => delivered d L s t fs j) ∗ semVal (tile d L, .dma sm) 0 ∗ waits (tile d L) O W) -∗ Φ PUnit.unit)
          -∗ wp frame (wpE (defs₀ (F := F)) 𝒱₀ (tile d L) none) Set.univ (Text.all4 L p) Φ) := by
  unfold Text.all4 inFlight waits
  simp only [hp, Prog.lift, Prog.bind_op, Prog.bind_ret]
  iintro ⟨#Hlv, HB, ⟨%W', %hW, HO⟩⟩ Hk
  ihave #Hmw := ((K (F := F)).mayWait_none (thr := tile d L) (SemLoc.dma sm) hO) $$ Hlv
  iapply (Transfers.wp_waitBatchO (EC (F := F)) 𝒱₀ (tile d L) none none (hN 0) (D := delivered d L s t fs) (u := 0) (by omega)) $$ [HB HO]
  · isplitl [HB]; · iexact HB
    isplitl [HO]; · iexact HO
    iexact Hmw
  iintro ⟨HB, HO⟩
  iapply (Transfers.wp_waitBatchO (EC (F := F)) 𝒱₀ (tile d L) none none (hN 1) (D := delivered d L s t fs) (u := 0 + N) (by omega)) $$ [HB HO]
  · isplitl [HB]; · iexact HB
    isplitl [HO]; · iexact HO
    iexact Hmw
  iintro ⟨HB, HO⟩
  iapply (Transfers.wp_waitBatchO (EC (F := F)) 𝒱₀ (tile d L) none none (hN 2) (D := delivered d L s t fs) (u := 0 + N + N) (by omega)) $$ [HB HO]
  · isplitl [HB]; · iexact HB
    isplitl [HO]; · iexact HO
    iexact Hmw
  iintro ⟨HB, HO⟩
  iapply (Transfers.wp_waitBatchLastO (EC (F := F)) 𝒱₀ (tile d L) none none (hN 3) hN0 (D := delivered d L s t fs) (u := 0 + N + N + N) (by omega)) $$ [HB HO]
  · isplitl [HB]; · iexact HB
    isplitl [HO]; · iexact HO
    iexact Hmw
  iintro ⟨HD, Hv, HO⟩
  rw [wp_ret]
  imodintro
  iapply Hk
  isplitl [HD]; · iexact HD
  isplitl [Hv]; · iexact Hv
  iexists _
  isplitr
  rotate_left 1
  · iexact HO
  ipureintro
  intro p hp
  simp only [Finset.mem_insert] at hp
  rcases hp with rfl | rfl | rfl | rfl | hp
  · exact .inr rfl
  · exact .inr rfl
  · exact .inr rfl
  · exact .inr rfl
  · exact hW p hp

end Four

end Cert.Proof

end
-- ==== Proof.Sort.lean ====
/-
  The sorting loop of one set of buffers: 64 trips of two halves of 16 columns. `half_wp` says what a half does to the four
  buffers that it writes; `Done` is the loop's invariant, that the columns below a bound are sorted, and `Done.half` carries
  it over a half. `sort_wp` is the loop: every column of the set's buffers is sorted by `net`.
-/
module

public import proofs.«01_k».proof.Proof.Copies

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Loop

variable (d : Dev nD) (L : grid0.Coords)

/-- The contents of four buffers of the subcore at `L`. -/
abbrev Four (F : FTy → Type) (d : Dev nD) (L : grid0.Coords) (b : Fin 4 → Text.Near) : Type :=
  (j : Fin 4) → Buf (Elt F) ((b j).view.loc (tile d L))

variable {d L}

/-- The first `n` columns of the buffers `o` hold the columns of `i`, sorted. -/
def Done {i o : Fin 4 → Text.Near} (g : Four F d L i) (f : Four F d L o) (n : ℕ) : Prop :=
  ∀ (j : Fin 4) (x : S2048.Idx), (x 0).val < n →
    (o j).view.read (Elt F) (f j) x = net (fun l => (i l).view.read (Elt F) (g l) x) j

/-- What a half of a trip leaves in the buffers `o`. -/
def stored {i o : Fin 4 → Text.Near} (g : Four F d L i) (f : Four F d L o) (t : Fin k0_t1_loop.trips) (h : Fin 2) : Four F d L o :=
  fun j => ((o j).access (Text.lanes t h)).write (Elt F) (f j)
    (Text.sorted4 (((i 0).access (Text.lanes t h)).read (Elt F) (g 0)) (((i 1).access (Text.lanes t h)).read (Elt F) (g 1))
      (((i 2).access (Text.lanes t h)).read (Elt F) (g 2)) (((i 3).access (Text.lanes t h)).read (Elt F) (g 3)) j) Finset.univ

/-- The half's lanes are 16 columns from where it starts. -/
theorem lanes_val (t : Fin k0_t1_loop.trips) (h : Fin 2) (y : S16.Idx) :
    (((Text.lanes t h).emb y : S2048.Idx) 0).val = 32 * t.val + 16 * h.val + (y 0).val := by
  rw [Rect.emb_apply]
  show (k0_off2 t (BitVec.ofNat 32 (16 * h.val))) 0 + 1 * (y 0).val = _
  rw [k0_off2_eq, Nat.one_mul]
  rfl

theorem Done.half {i o : Fin 4 → Text.Near} {g : Four F d L i} {f : Four F d L o} {t : Fin k0_t1_loop.trips} {h : Fin 2}
    (hf : Done g f (32 * t.val + 16 * h.val)) : Done g (stored g f t h) (32 * t.val + 16 * h.val + 16) := by
  intro j x hx
  unfold stored
  by_cases hm : x ∈ (Finset.univ : Finset S16.Idx).map (Text.lanes t h).emb
  · obtain ⟨y, -, rfl⟩ := Finset.mem_map.mp hm
    refine (View.read_slice_write_emb (v := (o j).view) (Text.lanes t h) (f j) _ (Finset.mem_univ y)).trans ?_
    exact sorted4_apply (fun l => ((i l).access (Text.lanes t h)).read (Elt F) (g l)) j y
  · refine (View.read_slice_write_of_not_mem (v := (o j).view) (Text.lanes t h) (f j) _ _ hm).trans (hf j x ?_)
    by_contra hlt
    refine hm (Finset.mem_map.mpr ⟨fun | 0 => ⟨(x 0).val - (32 * t.val + 16 * h.val), ?_⟩, Finset.mem_univ _, ?_⟩)
    · show _ < 16
      omega
    · refine funext fun | 0 => Fin.ext ?_
      rw [lanes_val]
      show 32 * t.val + 16 * h.val + ((x 0).val - (32 * t.val + 16 * h.val)) = (x 0).val
      omega

theorem Done.none {i o : Fin 4 → Text.Near} (g : Four F d L i) (f : Four F d L o) : Done g f 0 :=
  fun _ _ hx => absurd hx (Nat.not_lt_zero _)

variable (d L)
variable (st : Fin 6)

/-- A read of the loop. -/
theorem get_wp {Φ : Vec F S16 .f32 → sProp 𝕄} (b : Text.Near) (t : Fin k0_t1_loop.trips) (h : Fin 2)
    (f : Buf (Elt F) (b.view.loc (tile d L))) :
    pts d L b f ⊢ iprop((pts d L b f -∗ Φ ((b.access (Text.lanes t h)).read (Elt F) f))
      -∗ wp frame (wpE (defs₀ (F := F)) 𝒱₀ (tile d L) none) Set.univ (Text.get L b t h) Φ) := by
  unfold Text.get Prog.lift
  iintro Hb Hk
  iapply (wp_load_rect 𝒱₀ (tile d L) none Set.univ (m := b) (r := Text.lanes t h) (S := b.view.set) (f := f)
    (View.set_slice_subset b.view _)) $$ Hb
  iintro Hb
  rw [wp_ret]
  imodintro
  iapply Hk
  iexact Hb

/-- A write of the loop. -/
theorem set_wp {Φ : PUnit → sProp 𝕄} (b : Text.Near) (t : Fin k0_t1_loop.trips) (h : Fin 2) (w : FVec F S16 .f32)
    (f : Buf (Elt F) (b.view.loc (tile d L))) :
    pts d L b f ⊢ iprop((pts d L b ((b.access (Text.lanes t h)).write (Elt F) f w Finset.univ) -∗ Φ PUnit.unit)
      -∗ wp frame (wpE (defs₀ (F := F)) 𝒱₀ (tile d L) none) Set.univ (Text.set L b t h w) Φ) := by
  unfold Text.set
  simp only [wp_bind]
  iintro Hb Hk
  iapply (get_wp d L b t h f) $$ Hb
  iintro Hb
  unfold Prog.lift
  iapply (wp_store 𝒱₀ (tile d L) none Set.univ (m := b) (r := Text.lanes t h) (S := b.view.set) (f := f)
    (View.set_slice_subset b.view _)) $$ Hb
  iintro Hb
  rw [wp_ret]
  imodintro
  iapply Hk
  iexact Hb

/-- The eight buffers of set `st`: the fetched ones at `g`, the ones to write out at `f`. -/
def loaded (g : Four F d L (Text.inB st)) (f : Four F d L (Text.outB st)) : sProp 𝕄 :=
  iprop((bigSep Finset.univ fun j => pts d L (Text.inB st j) (g j)) ∗ bigSep Finset.univ fun j => pts d L (Text.outB st j) (f j))

theorem half_wp {Φ : PUnit → sProp 𝕄} (t : Fin k0_t1_loop.trips) (h : Fin 2) (g : Four F d L (Text.inB st)) (f : Four F d L (Text.outB st)) :
    loaded d L st g f ⊢ iprop((loaded d L st g (stored g f t h) -∗ Φ PUnit.unit)
      -∗ wp frame (wpE (defs₀ (F := F)) 𝒱₀ (tile d L) none) Set.univ (Text.half L st t h) Φ) := by
  unfold loaded Text.half
  rw [bigSep_four, bigSep_four, bigSep_four]
  simp only [wp_bind]
  iintro ⟨⟨Hi0, Hi1, Hi2, Hi3⟩, ⟨Ho0, Ho1, Ho2, Ho3⟩⟩ Hk
  iapply (get_wp d L (Text.inB st 0) t h (g 0)) $$ Hi0
  iintro Hi0
  iapply (get_wp d L (Text.inB st 1) t h (g 1)) $$ Hi1
  iintro Hi1
  iapply (get_wp d L (Text.inB st 2) t h (g 2)) $$ Hi2
  iintro Hi2
  iapply (get_wp d L (Text.inB st 3) t h (g 3)) $$ Hi3
  iintro Hi3
  iapply (set_wp d L (Text.outB st 0) t h _ (f 0)) $$ Ho0
  iintro Ho0
  iapply (set_wp d L (Text.outB st 1) t h _ (f 1)) $$ Ho1
  iintro Ho1
  iapply (set_wp d L (Text.outB st 2) t h _ (f 2)) $$ Ho2
  iintro Ho2
  iapply (set_wp d L (Text.outB st 3) t h _ (f 3)) $$ Ho3
  iintro Ho3
  iapply Hk
  isplitl [Hi0 Hi1 Hi2 Hi3]
  · isplitl [Hi0]; · iexact Hi0
    isplitl [Hi1]; · iexact Hi1
    isplitl [Hi2]; · iexact Hi2
    iexact Hi3
  isplitl [Ho0]; · iexact Ho0
  isplitl [Ho1]; · iexact Ho1
  isplitl [Ho2]; · iexact Ho2
  iexact Ho3

/-- The loop's invariant: before trip `n`, the first `32 * n` columns are sorted. -/
def sorting (g : Four F d L (Text.inB st)) (n : ℕ) (_ : Unit) : sProp 𝕄 :=
  iprop(∃ f, ⌜Done g f (32 * n)⌝ ∗ loaded d L st g f)

theorem trip_wp (g : Four F d L (Text.inB st)) (t : Fin k0_t1_loop.trips) (u : Unit) :
    (sorting d L st g t.val u : sProp 𝕄)
      ⊢ wp frame (wpE (defs₀ (F := F)) 𝒱₀ (tile d L) none) Set.univ (Text.trip L st t u) (sorting d L st g (t.val + 1)) := by
  unfold sorting Text.trip
  simp only [wp_bind]
  iintro ⟨%f, %hf, H⟩
  iapply (half_wp d L st t 0 g f) $$ H
  iintro H
  iapply (half_wp d L st t 1 g _) $$ H
  iintro H
  rw [wp_pure]
  imodintro
  iexists _
  isplitr
  rotate_left 1
  · iexact H
  ipureintro
  exact Done.half (t := t) (h := 1) (Done.half (t := t) (h := 0) hf)

/-- The loop sorts every column. -/
theorem sort_wp {Φ : Unit → sProp 𝕄} (g : Four F d L (Text.inB st)) :
    iprop((bigSep Finset.univ fun j => pts d L (Text.inB st j) (g j)) ∗ bigSep Finset.univ fun j => iprop(∃ f, pts d L (Text.outB st j) f))
      ⊢ iprop(((bigSep Finset.univ fun j => pts d L (Text.inB st j) (g j))
            ∗ (∃ f : Four F d L (Text.outB st), ⌜Done g f 2048⌝ ∗ bigSep Finset.univ fun j => pts d L (Text.outB st j) (f j)) -∗ Φ ())
          -∗ wp frame (wpE (defs₀ (F := F)) 𝒱₀ (tile d L) none) Set.univ (Text.sort L st) Φ) := by
  unfold Text.sort
  iintro ⟨Hi, Ho⟩ Hk
  ihave Ho' := (bigSep_exists_pi Finset.univ (fun j (f : Buf (Elt F) ((Text.outB st j).view.loc (tile d L))) => pts d L (Text.outB st j) f)) $$ Ho
  icases Ho' with ⟨%f, Ho⟩
  iapply (Scf.wp_for frame _ Set.univ _ _ _ k0_t1_ok () (Text.trip L st) (sorting d L st g) (trip_wp d L st g))
  isplitr [Hk]
  · unfold sorting loaded
    iexists f
    isplitr
    · ipureintro; exact Done.none g f
    isplitl [Hi] <;> iassumption
  · iintro %u H
    unfold sorting loaded
    icases H with ⟨%f', %hf', Hi, Ho⟩
    iapply Hk
    isplitl [Hi]; · iexact Hi
    iexists f'
    isplitr
    · ipureintro; exact hf'
    iexact Ho

end Loop

end Cert.Proof

end
-- ==== Proof.Chunk.lean ====
/-
  A chunk's life in one set of buffers, in four steps: its fetch is started (`fetch_wp`) and waited for (`fetched_wp`), the loop
  sorts it (`sort_wp`), its write-out is started (`put_wp`) and waited for (`putDone_wp`). What is carried along is the value: a
  fetched buffer reads as its chunk of the argument, a sorted one as `net` of the four, and so does the chunk of the result.
-/
module

public import proofs.«01_k».proof.Proof.Sort

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- What one copy of 2048 values into a subcore's buffer counts on its semaphore, and one out to the result. -/
def nearUnits : ℕ := (Text.inB 0 0).view.dmaCredit
def farUnits : ℕ := sig.dmaCredit .scVector (Kind.table .scVector .hbm) (Memref.whole main_v0_scv).view.buf S2048 .f32

theorem inB_units (st : Fin 6) (j : Fin 4) : (Text.inB st j).view.dmaCredit = nearUnits := by
  fin_cases st <;> fin_cases j <;> rfl
theorem dst_units (L : grid0.Coords) (k : Fin 16) (j : Fin 4) : (Text.dst L k j).view.dmaCredit = farUnits := rfl
theorem nearUnits_pos : 0 < nearUnits := View.dmaCredit_pos _ (by decide)
theorem farUnits_pos : 0 < farUnits := by
  rw [← dst_units (fun | 0 => ⟨0, by decide⟩ | 1 => ⟨0, by decide⟩) 0 0]
  exact View.dmaCredit_pos _ (by decide)

section Chunk

variable (m : (ℓ : Loc nD τ sig) → Buf (Elt F) ℓ) (d : Dev nD) (L : grid0.Coords) (st : Fin 6) (k : Fin 16)

/-- Chunk `k` of the four arguments, as launched. -/
abbrev args (j : Fin 4) : Buf (Elt F) ((Text.src L k j).view.loc (tile d L)) := m _

/-- Row `j` of the sorted chunk. -/
def value (j : Fin 4) (x : S2048.Idx) : F .f32 :=
  net (fun l => (Text.src L k l).view.read (Elt F) (args m d L k l) x) j

/-! ## The states -/

/-- The chunk of the four arguments, held. -/
def argHeld : sProp 𝕄 := bigSep Finset.univ fun j => pts d L (Text.src L k j) (args m d L k j)
/-- The chunk of the result, not yet written. -/
def resOpen : sProp 𝕄 := bigSep Finset.univ fun j => iprop(∃ f : Buf (Elt F) _, pts d L (Text.dst L k j) f)
/-- The chunk of the result, written. -/
def resDone : sProp 𝕄 := bigSep Finset.univ fun j =>
  iprop(∃ f, ⌜∀ x, (Text.dst L k j).view.read (Elt F) f x = value m d L k j x⌝ ∗ pts d L (Text.dst L k j) f)

/-- The fetching half of a set, with nothing in flight. -/
def inIdle : sProp 𝕄 :=
  iprop((bigSep Finset.univ fun j => iprop(∃ f : Buf (Elt F) _, pts d L (Text.inB st j) f)) ∗ semVal (tile d L, .dma (Text.inS st)) 0)
/-- The writing half of a set, with nothing in flight. -/
def outIdle : sProp 𝕄 :=
  iprop((bigSep Finset.univ fun j => iprop(∃ f : Buf (Elt F) _, pts d L (Text.outB st j) f)) ∗ semVal (tile d L, .dma (Text.outS st)) 0)

/-- The chunk on its way into the set. -/
def fetching : sProp 𝕄 := inFlight d L (Text.src L k) (Text.inB st) (Text.inS st) nearUnits (args m d L k)
/-- The chunk, sorted, on its way out of the set. -/
def putting : sProp 𝕄 :=
  iprop(∃ fs : Four F d L (Text.outB st), ⌜∀ j x, (Text.outB st j).view.read (Elt F) (fs j) x = value m d L k j x⌝
    ∗ inFlight d L (Text.outB st) (Text.dst L k) (Text.outS st) farUnits fs)

/-- The chunk in the set's buffers, fetched. -/
def fetchedIn : sProp 𝕄 :=
  iprop((∃ g : Four F d L (Text.inB st), ⌜∀ j, (Text.inB st j).view.read (Elt F) (g j) = (Text.src L k j).view.read (Elt F) (args m d L k j)⌝
      ∗ bigSep Finset.univ fun j => pts d L (Text.inB st j) (g j)) ∗ semVal (tile d L, .dma (Text.inS st)) 0)
/-- The chunk in the set's buffers, sorted. -/
def sortedIn : sProp 𝕄 :=
  iprop((∃ f : Four F d L (Text.outB st), ⌜∀ j x, (Text.outB st j).view.read (Elt F) (f j) x = value m d L k j x⌝
      ∗ bigSep Finset.univ fun j => pts d L (Text.outB st j) (f j)) ∗ semVal (tile d L, .dma (Text.outS st)) 0)

/-! ## The steps -/

theorem forget (b : Fin 4 → Text.Near) (g : Four F d L b) :
    (bigSep Finset.univ fun j => pts d L (b j) (g j)) ⊢ (bigSep Finset.univ fun j => iprop(∃ f : Buf (Elt F) _, pts d L (b j) f) : sProp 𝕄) :=
  bigSep_mono fun j _ => show pts d L (b j) (g j) ⊢ (iprop(∃ f : Buf (Elt F) _, pts d L (b j) f) : sProp 𝕄) by
    iintro H
    iexists (g j)
    iexact H

/-- What the write-outs delivered is the chunk of the result, written. -/
theorem landed {fs : Four F d L (Text.outB st)} (hfs : ∀ j x, (Text.outB st j).view.read (Elt F) (fs j) x = value m d L k j x) :
    (bigSep Finset.univ fun j => iprop(∃ f, ⌜(Text.dst L k j).view.read (Elt F) f = (Text.outB st j).view.read (Elt F) (fs j)⌝ ∗ pts d L (Text.dst L k j) f))
      ⊢ (resDone m d L k : sProp 𝕄) :=
  bigSep_mono fun j _ => show (iprop(∃ f, ⌜(Text.dst L k j).view.read (Elt F) f = (Text.outB st j).view.read (Elt F) (fs j)⌝ ∗ pts d L (Text.dst L k j) f) : sProp 𝕄)
      ⊢ iprop(∃ f, ⌜∀ x, (Text.dst L k j).view.read (Elt F) f x = value m d L k j x⌝ ∗ pts d L (Text.dst L k j) f) by
    iintro ⟨%f, %hf, H⟩
    iexists f
    isplitr
    · ipureintro; intro x; rw [hf, hfs]
    · iexact H

theorem fetch_wp {Φ : PUnit → sProp 𝕄} :
    iprop(argHeld m d L k ∗ inIdle d L st) ⊢ iprop((fetching m d L st k -∗ Φ PUnit.unit)
      -∗ wp frame (wpE (defs₀ (F := F)) 𝒱₀ (tile d L) none) Set.univ (Text.all4 L (Text.fetch L st k)) Φ) := by
  unfold argHeld inIdle fetching
  iintro ⟨Ha, Hi, Hv⟩
  iapply (start4 d L (Text.src_exact L k) (fun j => (Text.inB_whole st j).wordExact) (fun _ => ⟨Or.inl rfl, trivial⟩) (inB_units st)
    (args m d L k) (Text.fetch L st k) (fun _ => rfl))
  isplitl [Ha]; · iexact Ha
  isplitl [Hi] <;> iassumption

variable {O : CellTallies nD τ sig (HIx 1)} (W : Waits sig (HIx 1)) (hO : ∀ g, O g none = 0)

include hO in
theorem fetched_wp {Φ : PUnit → sProp 𝕄} :
    iprop(levAts (K (F := F)).L (K (F := F)).lev ∗ fetching m d L st k ∗ waits (tile d L) O W)
      ⊢ iprop((argHeld m d L k ∗ fetchedIn m d L st k ∗ waits (tile d L) O W -∗ Φ PUnit.unit)
      -∗ wp frame (wpE (defs₀ (F := F)) 𝒱₀ (tile d L) none) Set.univ (Text.all4 L (Text.fetched L st k)) Φ) := by
  unfold argHeld fetching fetchedIn
  iintro ⟨#Hlv, HB, HO⟩ Hk
  iapply (wait4 d L (Text.src_exact L k) (fun j => (Text.inB_whole st j).wordExact) (inB_units st) nearUnits_pos (args m d L k) W hO
    (Text.fetched L st k) (fun _ => rfl)) $$ [HB HO]
  · isplitr; · iexact Hlv
    isplitl [HB] <;> iassumption
  unfold delivered
  rw [bigSep_sep']
  iintro ⟨⟨Hi, Ha⟩, Hv, HO⟩
  ihave Hi' := (bigSep_exists_pi Finset.univ (fun j (f : Buf (Elt F) ((Text.inB st j).view.loc (tile d L))) =>
    iprop(⌜(Text.inB st j).view.read (Elt F) f = (Text.src L k j).view.read (Elt F) (args m d L k j)⌝ ∗ pts d L (Text.inB st j) f))) $$ Hi
  icases Hi' with ⟨%g, Hi⟩
  ihave Hi' := (bigSep_pure_sep _ _ _) $$ Hi
  icases Hi' with ⟨%hg, Hi⟩
  iapply Hk
  isplitl [Ha]; · iexact Ha
  isplitr [HO]
  · isplitr [Hv]
    · iexists g
      isplitr
      · ipureintro; exact fun j => hg j (Finset.mem_univ j)
      · iexact Hi
    · iexact Hv
  · iexact HO

theorem sorted_wp {Φ : Unit → sProp 𝕄} :
    iprop(fetchedIn m d L st k ∗ outIdle d L st)
      ⊢ iprop((inIdle d L st ∗ sortedIn m d L st k -∗ Φ ())
      -∗ wp frame (wpE (defs₀ (F := F)) 𝒱₀ (tile d L) none) Set.univ (Text.sort L st) Φ) := by
  unfold fetchedIn outIdle inIdle sortedIn
  iintro ⟨⟨⟨%g, %hg, Hi⟩, Hv⟩, ⟨Ho, Hw⟩⟩ Hk
  iapply (sort_wp d L st g) $$ [Hi Ho]
  · isplitl [Hi] <;> iassumption
  iintro ⟨Hi, ⟨%f, %hf, Ho⟩⟩
  iapply Hk
  isplitl [Hi Hv]
  · isplitl [Hi]
    · iapply (forget d L (Text.inB st) g) $$ Hi
    · iexact Hv
  · isplitr [Hw]
    · iexists f
      isplitr
      · ipureintro
        intro j x
        rw [hf j x (x 0).isLt]
        simp only [hg]
        rfl
      · iexact Ho
    · iexact Hw

theorem put_wp {Φ : PUnit → sProp 𝕄} :
    iprop(resOpen d L k ∗ sortedIn m d L st k) ⊢ iprop((putting m d L st k -∗ Φ PUnit.unit)
      -∗ wp frame (wpE (defs₀ (F := F)) 𝒱₀ (tile d L) none) Set.univ (Text.all4 L (Text.put L st k)) Φ) := by
  unfold resOpen sortedIn putting
  iintro ⟨Hr, ⟨%f, %hf, Ho⟩, Hv⟩ Hk
  iapply (start4 d L (fun j => (Text.outB_whole st j).wordExact) (Text.dst_exact L k) (fun _ => ⟨Or.inl rfl, trivial⟩) (dst_units L k)
    f (Text.put L st k) (fun _ => rfl)) $$ [Hr Ho Hv]
  · isplitl [Ho]; · iexact Ho
    isplitl [Hr] <;> iassumption
  iintro HB
  iapply Hk
  iexists f
  isplitr
  · ipureintro; exact hf
  · iexact HB

include hO in
theorem putDone_wp {Φ : PUnit → sProp 𝕄} :
    iprop(levAts (K (F := F)).L (K (F := F)).lev ∗ putting m d L st k ∗ waits (tile d L) O W)
      ⊢ iprop((resDone m d L k ∗ outIdle d L st ∗ waits (tile d L) O W -∗ Φ PUnit.unit)
      -∗ wp frame (wpE (defs₀ (F := F)) 𝒱₀ (tile d L) none) Set.univ (Text.all4 L (Text.putDone L st k)) Φ) := by
  unfold putting outIdle
  iintro ⟨#Hlv, ⟨%fs, %hfs, HB⟩, HO⟩ Hk
  iapply (wait4 d L (fun j => (Text.outB_whole st j).wordExact) (Text.dst_exact L k) (dst_units L k) farUnits_pos fs W hO
    (Text.putDone L st k) (fun _ => rfl)) $$ [HB HO]
  · isplitr; · iexact Hlv
    isplitl [HB] <;> iassumption
  unfold delivered
  rw [bigSep_sep']
  iintro ⟨⟨Hr, Ho⟩, Hv, HO⟩
  iapply Hk
  isplitl [Hr]
  · iapply (landed m d L st k hfs) $$ Hr
  isplitr [HO]
  · isplitl [Ho]
    · iapply (forget d L (Text.outB st) fs) $$ Ho
    · iexact Hv
  · iexact HO

end Chunk

end Cert.Proof

end
-- ==== Proof.Body.lean ====
/-
  The whole body on one subcore. `first_wp`, `middle_wp` and `last_wp` are a chunk's turn, in the three forms that the text has;
  `whole_wp` strings them together: from its sixteen chunks of the arguments and of the result, the subcore ends with the
  arguments as they were, every chunk of the result written, and its own buffers and semaphores idle.
-/
module

public import proofs.«01_k».proof.Proof.Chunk

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bigSep_sixteen (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

section Body

variable (m : (ℓ : Loc nD τ sig) → Buf (Elt F) ℓ) (d : Dev nD) (L : grid0.Coords)
variable {O : CellTallies nD τ sig (HIx 1)} (W : Waits sig (HIx 1)) (hO : ∀ g, O g none = 0)

include hO

/-- A chunk's first turn: nothing was written out from its set before. -/
theorem first_wp (k : Fin 16) (st : Fin 6) (k' : Fin 16) {Φ : PUnit → sProp 𝕄} :
    iprop(levAts (K (F := F)).L (K (F := F)).lev ∗ fetching m d L st k ∗ outIdle d L st ∗ argHeld m d L k' ∗ resOpen d L k ∗ waits (tile d L) O W)
      ⊢ iprop((fetching m d L st k' ∗ putting m d L st k ∗ argHeld m d L k ∗ waits (tile d L) O W -∗ Φ PUnit.unit)
        -∗ wp frame (wpE (defs₀ (F := F)) 𝒱₀ (tile d L) none) Set.univ (Text.first L k st k') Φ) := by
  unfold Text.first
  simp only [wp_bind]
  iintro ⟨#Hlv, Hf, Ho, Ha, Hr, HO⟩ Hk
  iapply (fetched_wp m d L st k W hO) $$ [Hf HO]
  · iframe; iexact Hlv
  iintro ⟨Ha', Hg, HO⟩
  iapply (sorted_wp m d L st k) $$ [Hg Ho]
  · iframe
  iintro ⟨Hi, Hs⟩
  iapply (fetch_wp m d L st k') $$ [Ha Hi]
  · iframe
  iintro Hf
  iapply (put_wp m d L st k) $$ [Hr Hs]
  · iframe
  iintro Hp
  iapply Hk
  iframe

/-- A chunk's turn when its set has chunk `k₀` to finish writing out, and chunk `k'` to fetch next. -/
theorem middle_wp (k : Fin 16) (st : Fin 6) (k₀ k' : Fin 16) {Φ : PUnit → sProp 𝕄} :
    iprop(levAts (K (F := F)).L (K (F := F)).lev ∗ fetching m d L st k ∗ putting m d L st k₀ ∗ argHeld m d L k' ∗ resOpen d L k ∗ waits (tile d L) O W)
      ⊢ iprop((fetching m d L st k' ∗ putting m d L st k ∗ argHeld m d L k ∗ resDone m d L k₀ ∗ waits (tile d L) O W -∗ Φ PUnit.unit)
        -∗ wp frame (wpE (defs₀ (F := F)) 𝒱₀ (tile d L) none) Set.univ (Text.middle L k st k₀ k') Φ) := by
  unfold Text.middle
  simp only [wp_bind]
  iintro ⟨#Hlv, Hf, Hp, Ha, Hr, HO⟩ Hk
  iapply (fetched_wp m d L st k W hO) $$ [Hf HO]
  · iframe; iexact Hlv
  iintro ⟨Ha', Hg, HO⟩
  iapply (putDone_wp m d L st k₀ W hO) $$ [Hp HO]
  · iframe; iexact Hlv
  iintro ⟨Hd, Ho, HO⟩
  iapply (sorted_wp m d L st k) $$ [Hg Ho]
  · iframe
  iintro ⟨Hi, Hs⟩
  iapply (fetch_wp m d L st k') $$ [Ha Hi]
  · iframe
  iintro Hf
  iapply (put_wp m d L st k) $$ [Hr Hs]
  · iframe
  iintro Hp
  iapply Hk
  iframe

/-- A chunk's turn when nothing is left to fetch into its set. -/
theorem last_wp (k : Fin 16) (st : Fin 6) (k₀ : Fin 16) {Φ : PUnit → sProp 𝕄} :
    iprop(levAts (K (F := F)).L (K (F := F)).lev ∗ fetching m d L st k ∗ putting m d L st k₀ ∗ resOpen d L k ∗ waits (tile d L) O W)
      ⊢ iprop((inIdle d L st ∗ putting m d L st k ∗ argHeld m d L k ∗ resDone m d L k₀ ∗ waits (tile d L) O W -∗ Φ PUnit.unit)
        -∗ wp frame (wpE (defs₀ (F := F)) 𝒱₀ (tile d L) none) Set.univ (Text.last L k st k₀) Φ) := by
  unfold Text.last
  simp only [wp_bind]
  iintro ⟨#Hlv, Hf, Hp, Hr, HO⟩ Hk
  iapply (fetched_wp m d L st k W hO) $$ [Hf HO]
  · iframe; iexact Hlv
  iintro ⟨Ha', Hg, HO⟩
  iapply (putDone_wp m d L st k₀ W hO) $$ [Hp HO]
  · iframe; iexact Hlv
  iintro ⟨Hd, Ho, HO⟩
  iapply (sorted_wp m d L st k) $$ [Hg Ho]
  · iframe
  iintro ⟨Hi, Hs⟩
  iapply (put_wp m d L st k) $$ [Hr Hs]
  · iframe
  iintro Hp
  iapply Hk
  iframe

/-- The whole body: every chunk of the result written, everything else as it was. -/
theorem whole_wp :
    iprop(levAts (K (F := F)).L (K (F := F)).lev ∗ (bigSep Finset.univ fun k => argHeld m d L k) ∗ (bigSep Finset.univ fun k => resOpen (F := F) d L k)
        ∗ (bigSep Finset.univ fun st => inIdle (F := F) d L st) ∗ (bigSep Finset.univ fun st => outIdle (F := F) d L st) ∗ waits (tile d L) O W)
      ⊢ wp frame (wpE (defs₀ (F := F)) 𝒱₀ (tile d L) none) Set.univ (Text.whole L) fun _ =>
        iprop((bigSep Finset.univ fun k => argHeld m d L k) ∗ (bigSep Finset.univ fun k => resDone m d L k)
        ∗ (bigSep Finset.univ fun st => inIdle (F := F) d L st) ∗ (bigSep Finset.univ fun st => outIdle (F := F) d L st) ∗ waits (tile d L) O W) := by
  unfold Text.whole
  simp only [wp_bind]
  rw [bigSep_sixteen, bigSep_sixteen, bigSep_sixteen, bigSep_six, bigSep_six]
  iintro ⟨#Hlv, ⟨A0, A1, A2, A3, A4, A5, A6, A7, A8, A9, A10, A11, A12, A13, A14, A15⟩, ⟨R0, R1, R2, R3, R4, R5, R6, R7, R8, R9, R10, R11, R12, R13, R14, R15⟩, ⟨I0, I1, I2, I3, I4, I5⟩, ⟨U0, U1, U2, U3, U4, U5⟩, HO⟩
  -- the first six chunks' fetches
  iapply (fetch_wp m d L 0 0) $$ [A0 I0]; · iframe
  iintro I0
  iapply (fetch_wp m d L 1 1) $$ [A1 I1]; · iframe
  iintro I1
  iapply (fetch_wp m d L 2 2) $$ [A2 I2]; · iframe
  iintro I2
  iapply (fetch_wp m d L 3 3) $$ [A3 I3]; · iframe
  iintro I3
  iapply (fetch_wp m d L 4 4) $$ [A4 I4]; · iframe
  iintro I4
  iapply (fetch_wp m d L 5 5) $$ [A5 I5]; · iframe
  iintro I5
  -- the sixteen chunks, each in its turn
  iapply (first_wp m d L W hO 0 0 6) $$ [I0 U0 A6 R0 HO]; · iframe; iexact Hlv
  iintro ⟨I0, U0, A0, HO⟩
  iapply (first_wp m d L W hO 1 1 7) $$ [I1 U1 A7 R1 HO]; · iframe; iexact Hlv
  iintro ⟨I1, U1, A1, HO⟩
  iapply (first_wp m d L W hO 2 2 8) $$ [I2 U2 A8 R2 HO]; · iframe; iexact Hlv
  iintro ⟨I2, U2, A2, HO⟩
  iapply (first_wp m d L W hO 3 3 9) $$ [I3 U3 A9 R3 HO]; · iframe; iexact Hlv
  iintro ⟨I3, U3, A3, HO⟩
  iapply (first_wp m d L W hO 4 4 10) $$ [I4 U4 A10 R4 HO]; · iframe; iexact Hlv
  iintro ⟨I4, U4, A4, HO⟩
  iapply (first_wp m d L W hO 5 5 11) $$ [I5 U5 A11 R5 HO]; · iframe; iexact Hlv
  iintro ⟨I5, U5, A5, HO⟩
  iapply (middle_wp m d L W hO 6 0 0 12) $$ [I0 U0 A12 R6 HO]; · iframe; iexact Hlv
  iintro ⟨I0, U0, A6, R0, HO⟩
  iapply (middle_wp m d L W hO 7 1 1 13) $$ [I1 U1 A13 R7 HO]; · iframe; iexact Hlv
  iintro ⟨I1, U1, A7, R1, HO⟩
  iapply (middle_wp m d L W hO 8 2 2 14) $$ [I2 U2 A14 R8 HO]; · iframe; iexact Hlv
  iintro ⟨I2, U2, A8, R2, HO⟩
  iapply (middle_wp m d L W hO 9 3 3 15) $$ [I3 U3 A15 R9 HO]; · iframe; iexact Hlv
  iintro ⟨I3, U3, A9, R3, HO⟩
  iapply (last_wp m d L W hO 10 4 4) $$ [I4 U4 R10 HO]; · iframe; iexact Hlv
  iintro ⟨I4, U4, A10, R4, HO⟩
  iapply (last_wp m d L W hO 11 5 5) $$ [I5 U5 R11 HO]; · iframe; iexact Hlv
  iintro ⟨I5, U5, A11, R5, HO⟩
  iapply (last_wp m d L W hO 12 0 6) $$ [I0 U0 R12 HO]; · iframe; iexact Hlv
  iintro ⟨I0, U0, A12, R6, HO⟩
  iapply (last_wp m d L W hO 13 1 7) $$ [I1 U1 R13 HO]; · iframe; iexact Hlv
  iintro ⟨I1, U1, A13, R7, HO⟩
  iapply (last_wp m d L W hO 14 2 8) $$ [I2 U2 R14 HO]; · iframe; iexact Hlv
  iintro ⟨I2, U2, A14, R8, HO⟩
  iapply (last_wp m d L W hO 15 3 9) $$ [I3 U3 R15 HO]; · iframe; iexact Hlv
  iintro ⟨I3, U3, A15, R9, HO⟩
  -- the last write-outs
  iapply (putDone_wp m d L 0 12 W hO) $$ [U0 HO]; · iframe; iexact Hlv
  iintro ⟨R12, U0, HO⟩
  iapply (putDone_wp m d L 1 13 W hO) $$ [U1 HO]; · iframe; iexact Hlv
  iintro ⟨R13, U1, HO⟩
  iapply (putDone_wp m d L 2 14 W hO) $$ [U2 HO]; · iframe; iexact Hlv
  iintro ⟨R14, U2, HO⟩
  iapply (putDone_wp m d L 3 15 W hO) $$ [U3 HO]; · iframe; iexact Hlv
  iintro ⟨R15, U3, HO⟩
  iapply (putDone_wp m d L 4 10 W hO) $$ [U4 HO]; · iframe; iexact Hlv
  iintro ⟨R10, U4, HO⟩
  iapply (putDone_wp m d L 5 11 W hO) $$ [U5 HO]; · iframe; iexact Hlv
  iintro ⟨R11, U5, HO⟩
  iframe

end Body

end Cert.Proof

end
-- ==== Proof.Tile.lean ====
/-
  One subcore's whole task, from what the launch hands it: its part of the arguments and of the result, its buffers at any
  contents and its semaphores at zero. The buffers and semaphores that the six sets use are picked out of its own, and put back
  at the end.
-/
module

public import proofs.«01_k».proof.Proof.Body

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Picking a family out of a set -/

/-- A family of distinct members of a set can be held apart from the others. -/
theorem bigSep_pick {I J : Type} [DecidableEq I] [DecidableEq J] [Fintype J] (s : Finset I) (e : J → I) (he : Function.Injective e)
    (hs : ∀ j, e j ∈ s) (Φ : I → sProp 𝕄) :
    bigSep s Φ = iprop((bigSep Finset.univ fun j => Φ (e j)) ∗ bigSep (s \ Finset.univ.image e) Φ) := by
  rw [SparseCore.bigSep_sdiff_split' (t := Finset.univ.image e) (fun i hi => by
      obtain ⟨j, -, rfl⟩ := Finset.mem_image.mp hi; exact hs j),
    SparseCore.bigSep_image_of_injOn he.injOn]

/-- Over both halves of the six sets, the fetching one first. -/
theorem bigSep_halves (Φ : Bool × Fin 6 → sProp 𝕄) :
    bigSep Finset.univ Φ = iprop((bigSep Finset.univ fun st => Φ (false, st)) ∗ bigSep Finset.univ fun st => Φ (true, st)) := by
  rw [← Finset.univ_product_univ, SparseCore.bigSep_product]
  exact bigSep_univ_eq_bigSepL [false, true] (by decide) (by decide) _

/-! ## The sets' buffers and semaphores -/

/-- The buffers and the semaphore of a half of a set: the fetching one (`false`) or the writing one (`true`). -/
def bufOf : Bool × Fin 6 → Fin 4 → Text.Near
  | (false, st) => Text.inB st
  | (true, st) => Text.outB st
def semOf : Bool × Fin 6 → DmaSem sig
  | (false, st) => Text.inS st
  | (true, st) => Text.outS st

theorem bufOf_whole : ∀ h j, (bufOf h j).IsWhole
  | (false, st) => Text.inB_whole st
  | (true, st) => Text.outB_whole st

theorem bufOf_injective : Function.Injective fun p : (Bool × Fin 6) × Fin 4 => (bufOf p.1 p.2).view.ref := by
  unfold Function.Injective; decide +kernel

theorem semOf_injective : Function.Injective semOf := by unfold Function.Injective; decide +kernel

variable (d : Dev nD) (L : grid0.Coords)

/-- The buffers are the subcore's own. -/
theorem bufOf_own : ∀ h j, (tile d L).2.devRef (bufOf h j).view.ref ∈ SparseCore.Cfg.ownRefs (tile d L).2
  | (false, st), j => by fin_cases st <;> fin_cases j <;> exact SparseCore.Cfg.mem_ownRefs_of_owner rfl
  | (true, st), j => by fin_cases st <;> fin_cases j <;> exact SparseCore.Cfg.mem_ownRefs_of_owner rfl

/-- The subcore's other buffers and its other semaphores. -/
def otherBufs : sProp 𝕄 :=
  bigSep (SparseCore.Cfg.ownRefs (tile d L).2 \ Finset.univ.image fun p : (Bool × Fin 6) × Fin 4 => (tile d L).2.devRef (bufOf p.1 p.2).view.ref)
    fun b => iprop(∃ f, (((tile d L).1, b) : Loc nD τ sig) ↦{fullShare} f)
def otherSems : sProp 𝕄 :=
  bigSep (SparseCore.Cfg.ownCells (tile d L) \ Finset.univ.image fun h => ((tile d L, .dma (semOf h)) : GSem nD τ sig)) fun g => semVal g 0

/-- A half's buffers at any contents. -/
def halfBufs (h : Bool × Fin 6) : sProp 𝕄 := bigSep Finset.univ fun j => iprop(∃ f : Buf (Elt F) _, pts d L (bufOf h j) f)

theorem buf_eq (h : Bool × Fin 6) (j : Fin 4) :
    (iprop(∃ f, (((tile d L).1, (tile d L).2.devRef (bufOf h j).view.ref) : Loc nD τ sig) ↦{fullShare} f) : sProp 𝕄)
      = iprop(∃ f : Buf (Elt F) _, pts d L (bufOf h j) f) := by
  unfold pts
  rw [(bufOf_whole h j).set_eq_univ]

theorem ownBufs_eq : (SparseCore.Cfg.ownBufs (tile d L) : sProp 𝕄) = iprop((bigSep Finset.univ (halfBufs d L)) ∗ otherBufs d L) := by
  refine (bigSep_pick (SparseCore.Cfg.ownRefs (tile d L).2) (fun p : (Bool × Fin 6) × Fin 4 => (tile d L).2.devRef (bufOf p.1 p.2).view.ref)
    (fun p q h => bufOf_injective (Proc.devRef_injective _ h)) (fun p => bufOf_own d L p.1 p.2)
    (fun b => iprop(∃ f, (((tile d L).1, b) : Loc nD τ sig) ↦{fullShare} f))).trans ?_
  refine congrArg (fun A : sProp 𝕄 => iprop(A ∗ otherBufs d L)) ?_
  rw [bigSep_congr (fun p _ => buf_eq d L p.1 p.2), ← Finset.univ_product_univ]
  exact SparseCore.bigSep_product _ _ _

theorem ownSems0_eq : (SparseCore.Cfg.ownSems0 (tile d L) : sProp 𝕄)
    = iprop((bigSep Finset.univ fun h => semVal (tile d L, .dma (semOf h)) 0) ∗ otherSems d L) := by
  unfold SparseCore.Cfg.ownSems0 otherSems
  exact bigSep_pick _ (fun h => ((tile d L, .dma (semOf h)) : GSem nD τ sig)) (fun p q h => semOf_injective (by injection h with _ h; injection h))
    (fun h => SparseCore.Cfg.mem_ownCells.mpr ⟨rfl, by
      show (SemLoc.dma (semOf h) : SemLoc sig).isScoped .scVector = true
      revert h; decide +kernel⟩) _

theorem sep_mid (A B C D : sProp 𝕄) : iprop((A ∗ B) ∗ C ∗ D) = iprop((A ∗ C) ∗ B ∗ D) := by
  have h : ∀ A B C D : sProp 𝕄, iprop((A ∗ B) ∗ C ∗ D) ⊢ iprop((A ∗ C) ∗ B ∗ D) := fun A B C D => by
    iintro ⟨⟨HA, HB⟩, HC, HD⟩; iframe
  exact equiv_iff.mp ⟨h A B C D, h A C B D⟩

/-- What a subcore owns: every half of a set idle, and the rest. -/
theorem own_eq : (iprop(SparseCore.Cfg.ownBufs (tile d L) ∗ SparseCore.Cfg.ownSems0 (tile d L)) : sProp 𝕄)
    = iprop(((bigSep Finset.univ fun st => inIdle d L st) ∗ bigSep Finset.univ fun st => outIdle d L st) ∗ otherBufs d L ∗ otherSems d L) := by
  rw [ownBufs_eq, ownSems0_eq, sep_mid, ← bigSep_sep', bigSep_halves]
  rfl

/-! ## The task -/

variable [FloatOps F] (m : (ℓ : Loc nD τ sig) → Buf (Elt F) ℓ) (hF : (K (F := F)).Facts)
  {O : CellTallies nD τ sig (HIx 1)} (W : Waits sig (HIx 1)) (hO : ∀ g, O g none = 0)

/-- What the subcore is handed, and what it hands back. -/
def goes : sProp 𝕄 := iprop((bigSep Finset.univ fun k => argHeld m d L k) ∗ bigSep Finset.univ fun k => resOpen d L k)
def comes : sProp 𝕄 := iprop((bigSep Finset.univ fun k => argHeld m d L k) ∗ bigSep Finset.univ fun k => resDone m d L k)

include hF hO in
theorem tile_wp :
    iprop(levAts (K (F := F)).L (K (F := F)).lev ∗ emp ∗ goes d L m ∗ scopedBufs (tile d L) ∗ scopedSems0 (tile d L) ∗ owes (tile d L) O W)
      ⊢ (wp frame (wpE (defs₀ (F := F)) 𝒱₀ (tile d L) none) Set.univ (Text.whole L) fun _ =>
          iprop(comes d L m ∗ scopedBufs (tile d L) ∗ scopedSems0 (tile d L) ∗ ∃ W', ⌜∀ p ∈ W', p ∈ W ∨ p.2 = none⌝ ∗ owes (tile d L) O W') : sProp 𝕄) := by
  have e : (iprop(scopedBufs (tile d L) ∗ scopedSems0 (tile d L)) : sProp 𝕄)
      = iprop(((bigSep Finset.univ fun st => inIdle d L st) ∗ bigSep Finset.univ fun st => outIdle d L st) ∗ otherBufs d L ∗ otherSems d L) := by
    rw [(K (F := F)).scopedBufs_V hF d (cV L) (jV L), SparseCore.Cfg.scopedSems0_V (Val := Elt F) d (cV L) (jV L)]
    exact own_eq d L
  have e₁ : ∀ A B C D : sProp 𝕄, iprop(A ∗ B ∗ C ∗ D) ⊢ iprop(A ∗ (B ∗ C) ∗ D) := fun A B C D => by
    iintro ⟨HA, HB, HC, HD⟩; iframe
  have e₂ : ∀ A B C D : sProp 𝕄, iprop(A ∗ (B ∗ C) ∗ D) ⊢ iprop(A ∗ B ∗ C ∗ D) := fun A B C D => by
    iintro ⟨HA, ⟨HB, HC⟩, HD⟩; iframe
  iintro ⟨#Hlv, -, H⟩
  ihave H' := (e₁ _ _ _ _) $$ H
  rw [e]
  unfold goes
  icases H' with ⟨⟨Ha, Hr⟩, ⟨⟨Hi, Ho⟩, Hb, Hs⟩, HO⟩
  iapply (wp_wand frame) $$ [Ha Hr Hi Ho HO]
  · iapply (whole_wp m d L W hO)
    isplitr; · iexact Hlv
    isplitl [Ha]; · iexact Ha
    isplitl [Hr]; · iexact Hr
    isplitl [Hi]; · iexact Hi
    isplitl [Ho]; · iexact Ho
    unfold waits
    iexists W
    isplitr; · ipureintro; exact fun p hp => Or.inl hp
    iexact HO
  iintro %_ ⟨Ha, Hr, Hi, Ho, HO⟩
  iapply (e₂ _ _ _ _)
  rw [e]
  unfold comes
  isplitl [Ha Hr]
  · isplitl [Ha] <;> iassumption
  isplitl [Hi Ho Hb Hs]
  · isplitl [Hi Ho]
    · isplitl [Hi] <;> iassumption
    · isplitl [Hb] <;> iassumption
  · unfold waits
    iexact HO

end Cert.Proof

end
-- ==== Proof.Parts.lean ====
/-
  How the arrays divide among the subcores. Column `i` belongs to one chunk of one subcore, `pieceOf i`, so each argument is the
  pieces of the subcores' chunks, and the result is their pieces row by row. Written, the pieces of the result are one array,
  `sorted`: row `j` of a column is `net` of the column's four values.
-/
module

public import proofs.«01_k».proof.Proof.Tile
public import Idealize.ShloMosaic.Lib.ValueIdxCore

@[expose] public section

set_option maxRecDepth 16384

noncomputable section

namespace Cert.Proof

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The grid's points and their chunks -/

/-- The grid point of SparseCore `c`'s subcore `s`. -/
def point (c : Fin (grid0.bound 0)) (s : Fin (grid0.bound 1)) : grid0.Coords :=
  fun | 0 => c | 1 => s | ⟨_ + 2, h⟩ => absurd h (Nat.not_lt.2 (Nat.le_add_left _ _))

/-- A chunk of a subcore: its SparseCore, its number there, and the chunk's number. -/
abbrev Piece : Type := Fin 2 × Fin 16 × Fin 16

/-- The grid point of a piece. -/
abbrev at_ (p : Piece) : grid0.Coords := point p.1 p.2.1

/-- The piece that column `n` belongs to. -/
def pieceOf (n : Fin 1048576) : Piece := (⟨n / 32768 % 2, by omega⟩, ⟨n / 65536, by omega⟩, ⟨n / 2048 % 16, by omega⟩)

/-- The first column of a piece. -/
def start (p : Piece) : ℕ := 65536 * p.2.1.val + 32768 * p.1.val + 2048 * p.2.2.val

theorem mem_piece (n : Fin 1048576) (p : Piece) : (start p ≤ n.val ∧ n.val < start p + 2048) ↔ pieceOf n = p := by
  obtain ⟨n, hn⟩ := n
  obtain ⟨⟨c, hc⟩, ⟨s, hs⟩, ⟨k, hk⟩⟩ := p
  simp only [start, pieceOf, Prod.mk.injEq, Fin.mk.injEq]
  omega

/-! ## Dividing an array by a function of the index -/

theorem pts_fibers {ℓ : Loc nD τ sig} {P : Type} [Fintype P] [DecidableEq P] (e : Idx ℓ → P) (S : P → Finset (Idx ℓ))
    (h : ∀ p i, i ∈ S p ↔ e i = p) (f : Buf (Elt F) ℓ) :
    (ℓ ↦{fullShare} f : sProp 𝕄) = bigSep Finset.univ fun p => ℓ ↦[S p]{fullShare} f := by
  rw [← pointsTo_biUnion Finset.univ S (fun p _ q _ hpq => Finset.disjoint_left.mpr fun i hp hq =>
    hpq (((h p i).mp hp).symm.trans ((h q i).mp hq)))]
  congr 1
  exact (Finset.eq_univ_of_forall fun i => Finset.mem_biUnion.mpr ⟨e i, Finset.mem_univ _, (h _ i).mpr rfl⟩).symm

/-! ## The arguments -/

variable (d : Dev nD)

/-- The four arguments and the result, on device `d`. -/
abbrev argLoc : Fin 4 → Loc nD τ sig
  | 0 => (SparseCore.T d).loc main_arg0 | 1 => (SparseCore.T d).loc main_arg1 | 2 => (SparseCore.T d).loc main_arg2 | 3 => (SparseCore.T d).loc main_arg3
abbrev resLoc : Loc nD τ sig := (SparseCore.T d).loc main_v0

/-- The columns of a chunk of an argument, and of a row of the result. -/
abbrev argRect (L : grid0.Coords) (k : Fin 16) : Rect S1048576 :=
  Rect.unit (s := S1048576) (k0_off1 L (BitVec.ofNat 32 (2048 * k.val))) S2048.size (k0_off1_inb L k)
abbrev resRect (L : grid0.Coords) (k : Fin 16) (j : Fin 4) : Rect S4x1048576 :=
  Rect.unit (s := S4x1048576) (Text.dstOff L k j) S1x2048.size (Text.dstOff_inb L k j)

theorem argOff_eq (p : Piece) : k0_off1 (at_ p) (BitVec.ofNat 32 (2048 * p.2.2.val)) = ![start p] := k0_off1_eq _ _
theorem dstOff_eq (p : Piece) (j : Fin 4) : Text.dstOff (at_ p) p.2.2 j = ![j.val, start p] := by
  fin_cases j
  · exact k0_off3_eq _ _
  · exact k0_off4_eq _ _
  · exact k0_off5_eq _ _
  · exact k0_off6_eq _ _

theorem mem_argRect (p : Piece) (i : S1048576.Idx) : i ∈ (argRect (at_ p) p.2.2).set ↔ pieceOf (i 0) = p := by
  rw [Rect.mem_set_unit, argOff_eq]
  exact Fin.forall_fin_one.trans (mem_piece (i 0) p)

theorem mem_row (a j : Fin 4) : (j.val ≤ a.val ∧ a.val < j.val + 1) ↔ a = j := by rw [Fin.ext_iff]; omega

theorem mem_resRect (p : Piece) (j : Fin 4) (i : S4x1048576.Idx) :
    i ∈ (resRect (at_ p) p.2.2 j).set ↔ (pieceOf (i 1), i 0) = (p, j) := by
  rw [Rect.mem_set_unit, dstOff_eq]
  exact Fin.forall_fin_two.trans (and_comm.trans (Iff.trans (and_congr (mem_piece (i 1) p) (mem_row (i 0) j)) (iff_of_eq (Prod.mk.injEq ..).symm)))

/-- Argument `j` is the pieces of the subcores' chunks. -/
theorem arg_pieces (m : (ℓ : Loc nD τ sig) → Buf (Elt F) ℓ) : ∀ j : Fin 4,
    (argLoc d j ↦{fullShare} m (argLoc d j) : sProp 𝕄)
      = bigSep Finset.univ fun p : Piece => pts d (at_ p) (Text.src (at_ p) p.2.2 j) (args m d (at_ p) p.2.2 j)
  | 0 => pts_fibers (ℓ := argLoc d 0) (fun i => pieceOf (i 0)) _ (fun p i => by
      rw [← mem_argRect]; exact iff_of_eq (congrArg (i ∈ ·) (View.set_slice_whole _ _))) _
  | 1 => pts_fibers (ℓ := argLoc d 1) (fun i => pieceOf (i 0)) _ (fun p i => by
      rw [← mem_argRect]; exact iff_of_eq (congrArg (i ∈ ·) (View.set_slice_whole _ _))) _
  | 2 => pts_fibers (ℓ := argLoc d 2) (fun i => pieceOf (i 0)) _ (fun p i => by
      rw [← mem_argRect]; exact iff_of_eq (congrArg (i ∈ ·) (View.set_slice_whole _ _))) _
  | 3 => pts_fibers (ℓ := argLoc d 3) (fun i => pieceOf (i 0)) _ (fun p i => by
      rw [← mem_argRect]; exact iff_of_eq (congrArg (i ∈ ·) (View.set_slice_whole _ _))) _

/-- The result is the pieces of the subcores' chunks of its rows. -/
theorem res_pieces (f : Buf (Elt F) (resLoc d)) :
    (resLoc d ↦{fullShare} f : sProp 𝕄)
      = bigSep Finset.univ fun p : Piece => bigSep Finset.univ fun j => pts d (at_ p) (Text.dst (at_ p) p.2.2 j) f := by
  refine (pts_fibers (ℓ := resLoc d) (P := Piece × Fin 4) (fun i : S4x1048576.Idx => (pieceOf (i 1), i 0))
    (fun q => (Text.dst (at_ q.1) q.1.2.2 q.2).view.set) (fun q i =>
      (iff_of_eq (congrArg (i ∈ ·) ((View.set_reshape _ _).trans (View.set_slice_whole _ _)))).trans (mem_resRect q.1 q.2 i)) f).trans ?_
  rw [← Finset.univ_product_univ]
  exact SparseCore.bigSep_product _ _ _

/-! ## The result's values -/

variable [FloatOps F] (m : (ℓ : Loc nD τ sig) → Buf (Elt F) ℓ)

/-- The four arguments' values, as launched. -/
def xval : Fin 4 → S1048576.Idx → F .f32
  | 0 => m (argLoc d 0) | 1 => m (argLoc d 1) | 2 => m (argLoc d 2) | 3 => m (argLoc d 3)

/-- The sorted columns: row `i 0` of `net` of the four values of column `i 1`. -/
def sorted : Buf (Elt F) (resLoc d) := fun i : S4x1048576.Idx => net (fun l => xval d m l (ix1 (i 1))) (i 0)

theorem src_read (L : grid0.Coords) (k : Fin 16) (x : S2048.Idx) : ∀ l : Fin 4,
    (Text.src L k l).view.read (Elt F) (args m d L k l) x = xval d m l ((argRect L k).emb x)
  | 0 => rfl | 1 => rfl | 2 => rfl | 3 => rfl

/-- Position `x` of a chunk of row `j`: the row, and the same column as in the arguments. -/
theorem dst_emb (p : Piece) (j : Fin 4) (x : S2048.Idx) :
    (Text.dst (at_ p) p.2.2 j).view.emb x = (ix2 j ((argRect (at_ p) p.2.2).emb x 0) : S4x1048576.Idx) := by
  have e : Shape.reshapeEquiv (s := S1x2048) (s' := S2048) squeezes_S1x2048_S2048.numel_eq x = Fin.cons ⟨0, Nat.one_pos⟩ x :=
    Shape.reshapeEquiv_cons_one _ x
  show (resRect (at_ p) p.2.2 j).emb (Shape.reshapeEquiv (s := S1x2048) (s' := S2048) squeezes_S1x2048_S2048.numel_eq x) = _
  rw [e]
  funext a
  refine Fin.ext ?_
  rw [Rect.emb_apply]
  match a with
  | ⟨0, _⟩ =>
    show Text.dstOff (at_ p) p.2.2 j 0 + 1 * 0 = j.val
    rw [dstOff_eq]; rfl
  | ⟨1, _⟩ =>
    show Text.dstOff (at_ p) p.2.2 j 1 + 1 * (x 0).val = k0_off1 (at_ p) (BitVec.ofNat 32 (2048 * p.2.2.val)) 0 + 1 * (x 0).val
    rw [dstOff_eq, argOff_eq]; rfl

theorem sorted_piece (p : Piece) (j : Fin 4) (x : S2048.Idx) :
    sorted d m ((Text.dst (at_ p) p.2.2 j).view.emb x) = value m d (at_ p) p.2.2 j x := by
  rw [dst_emb]
  unfold sorted value
  simp only [src_read]
  congr 1
  funext l
  exact congrArg (xval d m l) (eq_ix1 _).symm

/-- The written pieces of the result are pieces of `sorted`. -/
theorem resDone_sorted (p : Piece) :
    (resDone m d (at_ p) p.2.2 : sProp 𝕄) ⊢ bigSep Finset.univ fun j => pts d (at_ p) (Text.dst (at_ p) p.2.2 j) (sorted d m) :=
  bigSep_mono fun j _ => show (iprop(∃ f, ⌜∀ x, (Text.dst (at_ p) p.2.2 j).view.read (Elt F) f x = value m d (at_ p) p.2.2 j x⌝
      ∗ pts d (at_ p) (Text.dst (at_ p) p.2.2 j) f) : sProp 𝕄) ⊢ pts d (at_ p) (Text.dst (at_ p) p.2.2 j) (sorted d m) by
    iintro ⟨%f, %hf, H⟩
    have e : (pts d (at_ p) (Text.dst (at_ p) p.2.2 j) f : sProp 𝕄) = pts d (at_ p) (Text.dst (at_ p) p.2.2 j) (sorted d m) :=
      pointsTo_congr fun i hi => by
        obtain ⟨x, -, rfl⟩ := Finset.mem_map.mp hi
        exact (hf x).trans (sorted_piece d m p j x).symm
    iapply (Entails.of_eq e)
    iexact H

/-! ## What the subcores are handed together, and what they hand back -/

theorem bigSep_pieces (Φ : Piece → sProp 𝕄) : bigSep Finset.univ Φ
    = bigSep Finset.univ fun c => bigSep Finset.univ fun s => bigSep Finset.univ fun k => Φ (c, s, k) := by
  rw [← Finset.univ_product_univ, SparseCore.bigSep_product]
  refine bigSep_congr fun c _ => ?_
  rw [← Finset.univ_product_univ, SparseCore.bigSep_product]

/-- The four arguments, whole. -/
def argsWhole : sProp 𝕄 := bigSep Finset.univ fun j => argLoc d j ↦{fullShare} m (argLoc d j)

theorem argsWhole_eq : (argsWhole d m : sProp 𝕄) = bigSep Finset.univ fun p : Piece => argHeld m d (at_ p) p.2.2 := by
  unfold argsWhole argHeld
  rw [bigSep_congr fun j _ => arg_pieces d m j, bigSep_four]
  simp only [bigSep_four, bigSep_sep']

theorem res_open : (resLoc d ↦{fullShare} m (resLoc d) : sProp 𝕄) ⊢ bigSep Finset.univ fun p : Piece => resOpen d (at_ p) p.2.2 := by
  rw [res_pieces]
  exact bigSep_mono fun p _ => bigSep_mono fun j _ => show (pts d (at_ p) (Text.dst (at_ p) p.2.2 j) (m (resLoc d)) : sProp 𝕄)
      ⊢ iprop(∃ f : Buf (Elt F) _, pts d (at_ p) (Text.dst (at_ p) p.2.2 j) f) by
    iintro H; iexists (m (resLoc d)); iexact H

theorem res_done : (bigSep Finset.univ fun p : Piece => resDone m d (at_ p) p.2.2) ⊢ (resLoc d ↦{fullShare} sorted d m : sProp 𝕄) := by
  rw [res_pieces]
  exact bigSep_mono fun p _ => resDone_sorted d m p

theorem goes_all : iprop(argsWhole d m ∗ resLoc d ↦{fullShare} m (resLoc d))
    ⊢ (bigSep Finset.univ fun c : Fin 2 => bigSep Finset.univ fun s : Fin 16 => goes d (point c s) m : sProp 𝕄) := by
  unfold goes
  rw [bigSep_congr fun c _ => bigSep_sep' _ _ _, bigSep_sep',
    ← bigSep_pieces fun p => argHeld m d (at_ p) p.2.2, ← bigSep_pieces fun p => resOpen d (at_ p) p.2.2, argsWhole_eq]
  iintro ⟨Ha, Hr⟩
  isplitl [Ha]; · iexact Ha
  iapply (res_open d m)
  iexact Hr

theorem comes_all : (bigSep Finset.univ fun c : Fin 2 => bigSep Finset.univ fun s : Fin 16 => comes d (point c s) m : sProp 𝕄)
    ⊢ iprop(argsWhole d m ∗ resLoc d ↦{fullShare} sorted d m) := by
  unfold comes
  rw [bigSep_congr fun c _ => bigSep_sep' _ _ _, bigSep_sep',
    ← bigSep_pieces fun p => argHeld m d (at_ p) p.2.2, ← bigSep_pieces fun p => resDone m d (at_ p) p.2.2, argsWhole_eq]
  iintro ⟨Ha, Hr⟩
  isplitl [Ha]; · iexact Ha
  iapply (res_done d m)
  iexact Hr

end Cert.Proof

end
-- ==== Proof.Launch.lean ====
/-
  The launch: each subcore's task under the launch's handshakes, which carry its pieces of the arrays and bring them back, and
  the program's run from it. `run_main` says, for any floating-point interpretation, that the program ends with its arguments
  unchanged, the result `sorted`, and every semaphore at zero.
-/
module

public import proofs.«01_k».proof.Proof.Parts

@[expose] public section

set_option maxRecDepth 16384

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

local notation "𝕄" => MT nD τ sig (HIx 1) (Elt F) ℕ UU ℕ

/-! ## What the handshakes carry -/

instance goes_storable (d : Dev nD) (L : grid0.Coords) : BI.Storable (upEmb : UEmb _ 𝕄) (goes d L m) := by
  unfold goes argHeld resOpen pts; infer_instance
instance comes_storable (d : Dev nD) (L : grid0.Coords) : BI.Storable (upEmb : UEmb _ 𝕄) (comes d L m) := by
  unfold comes argHeld resDone pts; infer_instance

/-- What one SparseCore is handed for its sixteen subcores, and what it brings back. -/
@[irreducible] def coreGoes (d : Dev nD) (c : Fin 2) : sProp 𝕄 := bigSep Finset.univ fun s : Fin 16 => goes d (point c s) m
@[irreducible] def coreComes (d : Dev nD) (c : Fin 2) : sProp 𝕄 := bigSep Finset.univ fun s : Fin 16 => comes d (point c s) m

instance coreGoes_storable (d : Dev nD) (c : Fin 2) : BI.Storable (upEmb : UEmb _ 𝕄) (coreGoes m d c) := by
  have h : ∀ s : Fin 16, BI.Storable (upEmb : UEmb _ 𝕄) (goes d (point c s) m) := fun s => goes_storable m d _
  unfold coreGoes; infer_instance
instance coreComes_storable (d : Dev nD) (c : Fin 2) : BI.Storable (upEmb : UEmb _ 𝕄) (coreComes m d c) := by
  have h : ∀ s : Fin 16, BI.Storable (upEmb : UEmb _ 𝕄) (comes d (point c s) m) := fun s => comes_storable m d _
  unfold coreComes; infer_instance

/-- The call's grid: two SparseCores, sixteen subcores of each. -/
theorem nCore_zero : (K (F := F)).nCore 0 = 2 := rfl
theorem nSub_zero : (K (F := F)).nSub 0 = 16 := rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_nothing {I : Type} (s : Finset I) : (bigSep s fun _ => iprop(emp)) = (iprop(emp) : sProp 𝕄) := bigSep_emp_const s

/-- The one call hands every SparseCore the pieces of its subcores, and brings them back. -/
def P : (K (F := F)).Pay (nD := nD) (Val := Elt F) (Name := ℕ) (U := UU) where
  st := fun q d c => match q with | 0 => coreGoes m d (Fin.cast nCore_zero c)
  dn := fun q d c => match q with | 0 => coreComes m d (Fin.cast nCore_zero c)
  go := fun q d c i => match q with | 0 => goes d (point (Fin.cast nCore_zero c) (Fin.cast nSub_zero i)) m
  td := fun q d c i => match q with | 0 => comes d (point (Fin.cast nCore_zero c) (Fin.cast nSub_zero i)) m
  x := fun _ _ => iprop(emp)

instance P_storable : (P (F := F) m).IsStorable where
  st q d c := match q with | 0 => coreGoes_storable m d _
  dn q d c := match q with | 0 => coreComes_storable m d _
  go q d c i := match q with | 0 => goes_storable m d _
  td q d c i := match q with | 0 => comes_storable m d _

theorem P_st (d : Dev nD) (c : Fin ((K (F := F)).nCore 0)) : (P m).st 0 d c = coreGoes m d (Fin.cast nCore_zero c) := rfl
theorem P_dn (d : Dev nD) (c : Fin ((K (F := F)).nCore 0)) : (P m).dn 0 d c = coreComes m d (Fin.cast nCore_zero c) := rfl
theorem P_go (d : Dev nD) (c : Fin ((K (F := F)).nCore 0)) (i : Fin ((K (F := F)).nSub 0)) :
    (P m).go 0 d c i = goes d (point (Fin.cast nCore_zero c) (Fin.cast nSub_zero i)) m := rfl
theorem P_td (d : Dev nD) (c : Fin ((K (F := F)).nCore 0)) (i : Fin ((K (F := F)).nSub 0)) :
    (P m).td 0 d c i = comes d (point (Fin.cast nCore_zero c) (Fin.cast nSub_zero i)) m := rfl

/-! ## The launch theorem's obligations -/

theorem defs₀_vector (c : Fin τ.nSC) (s : Fin τ.nSub) :
    defs₀ (F := F) (.scVector c s) 0 () = SparseCore.onTile hcore0 hsub0 (fun c s => Text.whole (point c s)) ⟨⟩ c s := by
  have e := fun L => (Text.body_eq (F := F) L).symm
  simp only [SparseCore.onTile, e]
  rfl

theorem waits_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_wp d (point ⟨_, hc.1⟩ ⟨_, hc.2⟩) m facts W hO).trans (wp_mono frame _ _ fun _ => waits_post)

theorem go_all (d : Dev nD) (c : Fin ((K (F := F)).nCore 0)) :
    (bigSep Finset.univ fun i => (P m).go 0 d c i) = coreGoes m d (Fin.cast nCore_zero c) := by
  refine (bigSep_congr fun i _ => P_go m d c i).trans ((bigSep_subs fun s => goes d (point (Fin.cast nCore_zero c) s) m).trans ?_)
  unfold coreGoes; rfl
theorem td_all (d : Dev nD) (c : Fin ((K (F := F)).nCore 0)) :
    (bigSep Finset.univ fun i => (P m).td 0 d c i) = coreComes m d (Fin.cast nCore_zero c) := by
  refine (bigSep_congr fun i _ => P_td m d c i).trans ((bigSep_subs fun s => comes d (point (Fin.cast nCore_zero c) s) m).trans ?_)
  unfold coreComes; rfl

theorem vecSplit : (K (F := F)).VecSplit' (P m) 0 := by
  intro d c
  rw [go_all, td_all, P_st, P_dn]
  iintro H; imodintro
  isplitl [H]; · iexact H
  iintro H; iexact H

/-! ## The launch's ghost state: the handshakes' rounds, and nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [bigSep_congr fun _ _ => bigSep_nothing _, bigSep_nothing]
  iempintro

/-! ## The TensorCore's program -/

theorem unscopedBufs_eq (d : Dev nD) :
    (unscopedBufs d (fun b => m ((SparseCore.T d).loc b)) : sProp 𝕄) = iprop(argsWhole d m ∗ resLoc d ↦{fullShare} m (resLoc d)) := by
  unfold unscopedBufs argsWhole
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton, bigSep_four]
  have h : ∀ A B C D E : sProp 𝕄, iprop(A ∗ B ∗ C ∗ D ∗ E) = iprop((A ∗ B ∗ C ∗ D) ∗ E) := fun A B C D E => by
    have h₁ : iprop(A ∗ B ∗ C ∗ D ∗ E) ⊢ iprop((A ∗ B ∗ C ∗ D) ∗ E) := by iintro ⟨HA, HB, HC, HD, HE⟩; iframe
    have h₂ : iprop((A ∗ B ∗ C ∗ D) ∗ E) ⊢ iprop(A ∗ B ∗ C ∗ D ∗ E) := by iintro ⟨⟨HA, HB, HC, HD⟩, HE⟩; iframe
    exact equiv_iff.mp ⟨h₁, h₂⟩
  exact h _ _ _ _ _

/-- What the call takes for the SparseCores, and what it hands back. -/
theorem st_all (d : Dev nD) : iprop(argsWhole d m ∗ resLoc d ↦{fullShare} m (resLoc d))
    ⊢ (bigSep Finset.univ fun c : Fin ((K (F := F)).nCore 0) => (P m).st 0 d c : sProp 𝕄) := by
  simp only [P_st]
  rw [bigSep_cores (coreGoes m d)]
  unfold coreGoes
  exact goes_all d m
theorem dn_all (d : Dev nD) : (bigSep Finset.univ fun c : Fin ((K (F := F)).nCore 0) => (P m).dn 0 d c : sProp 𝕄)
    ⊢ iprop(argsWhole d m ∗ resLoc d ↦{fullShare} sorted d m) := by
  simp only [P_dn]
  rw [bigSep_cores (coreComes m d)]
  unfold coreComes
  exact comes_all d m

/-- What the TensorCore's program leaves: the arguments as launched, and the result sorted. -/
abbrev FIN (d : Dev nD) : sProp 𝕄 := iprop(argsWhole d m ∗ resLoc d ↦{fullShare} sorted d m)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Har, Hts, -⟩, -⟩
  iapply ((K (F := F)).wp_run (D (F := F)) 𝒱 (EH := EH) (P := P m) κ d 0) $$ [Hst Har Hb Hts]
  isplitr; · iexact Hctx
  isplitl [Hst]; · iexact Hst
  isplitl [Har]
  · iapply (st_all m d); iexact Har
  iintro ⟨Hst, Hdn⟩
  ihave Hdn' := (dn_all m d) $$ Hdn
  imodintro
  isplitl [Hst]; · iexact Hst
  isplitl [Hdn']; · iexact Hdn'
  isplitl [Hb] <;> iassumption

/-! ## The run -/

def fq (d : Dev nD) (s' : Phys nD τ sig (Elt F)) : Prop :=
  (∀ j, s'.mem.mem (argLoc d j) = m (argLoc d j)) ∧ s'.mem.mem (resLoc d) = sorted d m

/-- An array held whole is what the memory holds there. -/
theorem read_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN argsWhole
  rw [bigSep_four]
  iintro ⟨⟨⟨H0, H1, H2, H3⟩, Hr⟩, HSI⟩
  ihave H := (read_whole s' _ _) $$ [HSI H0]
  · isplitl [HSI] <;> iassumption
  icases H with ⟨%h0, HSI⟩
  ihave H := (read_whole s' _ _) $$ [HSI H1]
  · isplitl [HSI] <;> iassumption
  icases H with ⟨%h1, HSI⟩
  ihave H := (read_whole s' _ _) $$ [HSI H2]
  · isplitl [HSI] <;> iassumption
  icases H with ⟨%h2, HSI⟩
  ihave H := (read_whole s' _ _) $$ [HSI H3]
  · isplitl [HSI] <;> iassumption
  icases H with ⟨%h3, HSI⟩
  ihave H := (read_whole s' _ _) $$ [HSI Hr]
  · isplitl [HSI] <;> iassumption
  icases H with ⟨%hr, HSI⟩
  ipureintro
  exact ⟨fun | 0 => h0 | 1 => h1 | 2 => h2 | 3 => h3, hr⟩

/-- What the run ends with, on every device. -/
def Post : PUnit × MemSt nD τ sig (Elt F) → Prop := fun r =>
  (∀ d : Dev nD, (∀ j, r.2.mem (argLoc d j) = m (argLoc d j)) ∧ r.2.mem (resLoc d) = sorted d m) ∧ r.2.sem = fun _ => 0

theorem run_main [∀ e, Nonempty (Elt F e)] :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Post m) (fun _ h hz => ⟨h, hz⟩)

end Cert.Proof

end
-- ==== Proof.Order.lean ====
/-
  The order of four values, over any linear order: the five comparisons of the network and a stable sort by "less than" give the
  same four values in the same places, because both rearrange the values and both leave them in ascending order.
-/
module

public import Idealize.ShloMosaic.Lib.SortFacts
public import Mathlib.Data.List.OfFn
public import Mathlib.Data.Fintype.Perm
public import Mathlib.Order.Lattice
public import Mathlib.Data.Fin.VecNotation

@[expose] public section

namespace Cert.Proof

open Idealize.ShloMosaic

variable {α : Type} [LinearOrder α]

/-- The network's four outputs, as least and greatest of pairs. -/
def minmax (v : Fin 4 → α) : Fin 4 → α
  | 0 => min (min (v 0) (v 1)) (min (v 2) (v 3))
  | 1 => min (max (min (v 0) (v 1)) (min (v 2) (v 3))) (min (max (v 0) (v 1)) (max (v 2) (v 3)))
  | 2 => max (max (min (v 0) (v 1)) (min (v 2) (v 3))) (min (max (v 0) (v 1)) (max (v 2) (v 3)))
  | 3 => max (max (v 0) (v 1)) (max (v 2) (v 3))

/-- The network's outputs ascend. -/
theorem minmax_ascend (v : Fin 4 → α) : (List.ofFn (minmax v)).Pairwise (· ≤ ·) := by
  have h01 : minmax v 0 ≤ minmax v 1 :=
    le_min min_le_max (le_min ((min_le_left _ _).trans min_le_max) ((min_le_right _ _).trans min_le_max))
  have h12 : minmax v 1 ≤ minmax v 2 := min_le_max
  have h23 : minmax v 2 ≤ minmax v 3 :=
    max_le (max_le (min_le_max.trans (le_max_left _ _)) (min_le_max.trans (le_max_right _ _))) min_le_max
  simp only [List.ofFn_succ, List.ofFn_zero, List.pairwise_cons, List.mem_cons, List.not_mem_nil, or_false, List.Pairwise.nil]
  refine ⟨?_, ?_, ?_, ?_, trivial⟩
  · rintro a (rfl | rfl | rfl)
    exacts [h01, h01.trans h12, (h01.trans h12).trans h23]
  · rintro a (rfl | rfl)
    exacts [h12, h12.trans h23]
  · rintro a rfl
    exact h23
  · exact fun _ h => h.elim

/-- How often `x` is the value `a`. -/
def times (x a : α) : ℕ := if a = x then 1 else 0

/-- One comparison keeps the pair it compares. -/
theorem times_min_max (x a b : α) : times x (min a b) + times x (max a b) = times x a + times x b := by
  rcases le_total a b with h | h
  · rw [min_eq_left h, max_eq_right h]
  · rw [min_eq_right h, max_eq_left h, Nat.add_comm]

theorem count_four (x : α) (f : Fin 4 → α) : (List.ofFn f).count x = times x (f 0) + times x (f 1) + times x (f 2) + times x (f 3) := by
  simp only [List.ofFn_succ, List.ofFn_zero, List.count_cons, List.count_nil, times, beq_iff_eq, Nat.zero_add]
  have e1 : (Fin.succ 0 : Fin 4) = 1 := rfl
  have e2 : (Fin.succ (Fin.succ 0) : Fin 4) = 2 := rfl
  have e3 : (Fin.succ (Fin.succ (Fin.succ 0)) : Fin 4) = 3 := rfl
  rw [e1, e2, e3]
  omega

/-- The network rearranges its inputs. -/
theorem minmax_perm (v : Fin 4 → α) : (List.ofFn (minmax v)).Perm (List.ofFn v) := by
  refine List.perm_iff_count.mpr fun x => ?_
  rw [count_four, count_four]
  have a := times_min_max x (v 0) (v 1)
  have b := times_min_max x (v 2) (v 3)
  have c := times_min_max x (min (v 0) (v 1)) (min (v 2) (v 3))
  have d := times_min_max x (max (v 0) (v 1)) (max (v 2) (v 3))
  have e := times_min_max x (max (min (v 0) (v 1)) (min (v 2) (v 3))) (min (max (v 0) (v 1)) (max (v 2) (v 3)))
  simp only [minmax]
  omega

/-- A stable sort by "less than" is the network. -/
theorem sort_eq_minmax (v : Fin 4 → α) (B : Fin 4 → Fin 4 → Bool) (hB : ∀ a b, B a b = true ↔ v a < v b) (j : Fin 4) :
    v (sortedFrom B j) = minmax v j := by
  have hB' : ∀ a b, B a b = false ↔ v b ≤ v a := fun a b => by
    rw [← not_lt, ← hB, Bool.not_eq_true]
  have hperm : (List.ofFn fun k => v (sortedFrom B k)).Perm (List.ofFn v) :=
    Equiv.Perm.ofFn_comp_perm (Equiv.ofBijective _ ⟨sortedFrom_injective B, sortedFrom_surjective B⟩) v
  have hasc : (List.ofFn fun k => v (sortedFrom B k)).Pairwise (· ≤ ·) := by
    rw [List.pairwise_ofFn]
    exact fun i k hik => (hB' _ _).mp <| sortedFrom_noInversion B B
      (fun a b h => (hB' b a).mpr ((hB a b).mp h).le) (fun _ _ h => h)
      (fun a b c h h' => (hB' a c).mpr (((hB' b c).mp h').trans ((hB' a b).mp h))) i k hik
  have e : (List.ofFn fun k => v (sortedFrom B k)) = List.ofFn (minmax v) :=
    List.Perm.eq_of_pairwise (le := (· ≤ ·)) (fun _ _ _ _ h h' => le_antisymm h h') hasc (minmax_ascend v) (hperm.trans (minmax_perm v).symm)
  exact congrFun (List.ofFn_injective e) j

end Cert.Proof
-- ==== Proof.Reference.lean ====
/-
  The reference's value over the extended reals, entry by entry: the four arrays set side by side, each column of four sorted by
  "less than", and the table turned, is the network's value of each column.
-/
module

public import proofs.«01_k».proof.Proof.Gen.ReferenceIdeal.Run
public import proofs.«01_k».proof.Proof.Base
public import proofs.«01_k».proof.Proof.Order
public import Idealize.ShloMosaic.Lib.Pointwise
public import Idealize.ShloMosaic.Lib.Quiescent

@[expose] public section

set_option maxRecDepth 16384

noncomputable section

namespace Cert.Proof.Reference

open Cert.ReferenceIdeal Cert.ReferenceIdeal.Gen
open Idealize.ShloMosaic Idealize.SL.Sem

/-! ## The comparator -/

/-- Over the extended reals, the reference's comparator is "less than": it has one zero, and no value that is not a number. -/
theorem comparator_eq (l r : Ideal .f32) : (comparator_f32_d1 (F := Ideal) l r == 1#1) = decide ((l : EReal) < r) := by
  have same : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := fun x => by
    rw [Ideal.cmp_une, Ideal.cmp_oeq, decide_eq_false (fun h => h rfl)]
    by_cases h : x = Ideal.ofBits .f32 0x00000000#32
    · rw [decide_eq_true h]; exact h.symm
    · rw [decide_eq_false h]; rfl
  show (Ideal.cmp .olt (Scalar.select (Ideal.cmp .une l l) (Ideal.ofBits .f32 0x7FC00000#32)
      (Scalar.select (Ideal.cmp .oeq l (Ideal.ofBits .f32 0x00000000#32)) (Ideal.ofBits .f32 0x00000000#32) l))
    (Scalar.select (Ideal.cmp .une r r) (Ideal.ofBits .f32 0x7FC00000#32)
      (Scalar.select (Ideal.cmp .oeq r (Ideal.ofBits .f32 0x00000000#32)) (Ideal.ofBits .f32 0x00000000#32) r)) == 1#1) = _
  rw [same, same, Ideal.cmp_olt]
  cases decide ((l : EReal) < r) <;> rfl

/-! ## The network over the extended reals -/

theorem net_eq (v : Fin 4 → Ideal .f32) (j : Fin 4) : net v j = minmax (α := EReal) v j := by
  fin_cases j <;> rfl

/-! ## The table of columns -/

/-- The four arrays side by side. -/
abbrev table (x : Fin 4 → FVec Ideal S1048576 .f32) : FVec Ideal S1048576x4 .f32 :=
  concatenate S1048576x4 1
    [⟨S1048576x1, shapeCast S1048576x1 (x 0) shapeCasts_S1048576_S1048576x1⟩, ⟨S1048576x1, shapeCast S1048576x1 (x 1) shapeCasts_S1048576_S1048576x1⟩,
     ⟨S1048576x1, shapeCast S1048576x1 (x 2) shapeCasts_S1048576_S1048576x1⟩, ⟨S1048576x1, shapeCast S1048576x1 (x 3) shapeCasts_S1048576_S1048576x1⟩]
    concatenates_S1048576x1_S1048576x1_S1048576x1_S1048576x1_S1048576x4_d1

theorem table_apply (x : Fin 4 → FVec Ideal S1048576 .f32) (i : Fin 1048576) (l : Fin 4) : table x (ix2 i l) = x l (ix1 i) := by
  fin_cases l <;> pointwise [table] <;> rfl

/-- Entry `l` of the column through `(c, j)`. -/
theorem along_eq (c : Fin 1048576) (j l : Fin 4) :
    (Shape.Idx.along (s := S1048576x4) (ix2 c j) (1 : Fin 2) l) = ix2 c l := by
  funext a
  match a with
  | ⟨0, _⟩ => rfl
  | ⟨1, _⟩ => rfl

theorem value (x : Fin 4 → FVec Ideal S1048576 .f32) (j : Fin 4) (c : Fin 1048576) :
    transpose S4x1048576 [1, 0] (Host.sort S1048576x4 1 comparator_f32_d1 (table x)) transposes_S1048576x4_S4x1048576_1_0 (ix2 j c)
      = net (fun l => x l (ix1 c)) j := by
  have hd : 1 < S1048576x4.rank := Nat.one_lt_two
  have ha : ∀ l : Fin 4, table x ((ix2 c j : S1048576x4.Idx).along ⟨1, hd⟩ l) = x l (ix1 c) := fun l =>
    (congrArg (table x) (along_eq c j l)).trans (table_apply x c l)
  rw [net_eq, transpose_apply [1, 0] _ transposes_S1048576x4_S4x1048576_1_0 (ix2 j c) (ix2 c j) fun a => match a with | ⟨0, _⟩ => rfl | ⟨1, _⟩ => rfl]
  unfold Host.sort
  rw [dif_pos hd]
  refine (ha _).trans (sort_eq_minmax (α := EReal) (fun l => x l (ix1 c)) _ (fun a b => ?_) j)
  dsimp only
  rw [ha, ha, comparator_eq, decide_eq_true_iff]

/-! ## The run -/

/-- The result as one array: each column in order. -/
abbrev result (x : Fin 4 → FVec Ideal S1048576 .f32) : FVec Ideal S4x1048576 .f32 := fun i => net (fun l => x l (ValueIdx.ix1 (i 1))) (i 0)

theorem result_eq (x : Fin 4 → FVec Ideal S1048576 .f32) :
    transpose S4x1048576 [1, 0] (Host.sort S1048576x4 1 comparator_f32_d1 (table x)) transposes_S1048576x4_S4x1048576_1_0 = result x := by
  funext i
  obtain ⟨j, c, rfl⟩ : ∃ (j : Fin 4) (c : Fin 1048576), i = ix2 j c :=
    ⟨i 0, i 1, (ValueIdx.eq_ix2 i).trans (ix2_eq_valueIdx _ _).symm⟩
  refine (value x j c).trans ?_
  simp only [ix1_eq_valueIdx]
  rfl

/-- The program declares no semaphore, so none can end elsewhere than at zero. -/
theorem still (s : MemSt nD τ sig (Elt Ideal)) : s.sem = fun _ => 0 := sem_eq_zero_of_no_sems rfl s

end Cert.Proof.Reference

end
-- ==== Proof.lean ====
/-
  The certificate. The kernel's run holds for any floating-point interpretation, so both kernel frames are readings of it. The
  reference's run is a line of whole-array operations whose value is computed in `Reference`. Over the extended reals both end
  with each column of four in order.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

set_option maxRecDepth 16384

noncomputable section

namespace Cert.Proof

open Idealize.ShloMosaic Idealize.SL.Sem

theorem frame_kernel : quiescent_Kernel (hKernel := Cert.Kernel.Gen.facts) := fun m g _ =>
  (θ_run Cert.KernelIdeal.defs _ _).mono (fun _ h => ⟨fun c => ⟨(h.1 c).1 0, (h.1 c).1 1, (h.1 c).1 2, (h.1 c).1 3⟩, h.2⟩)
    (run_main (F := Bits) m g)

theorem frame_kernelIdeal : quiescent_KernelIdeal (hKernelIdeal := Cert.KernelIdeal.Gen.facts) := fun m g _ =>
  (θ_run Cert.KernelIdeal.defs _ _).mono (fun _ h => ⟨fun c => ⟨(h.1 c).1 0, (h.1 c).1 1, (h.1 c).1 2, (h.1 c).1 3⟩, h.2⟩)
    (run_main (F := Ideal) m g)

theorem frame_reference : quiescent_ReferenceIdeal (hReferenceIdeal := Cert.ReferenceIdeal.Gen.facts) := fun m g _ =>
  (θ_run Cert.ReferenceIdeal.defs _ _).mono (fun r h => ⟨fun c => (h c).2, Reference.still r.2⟩)
    (Cert.ReferenceIdeal.Value.run (F := Ideal) m g)

/-- Equal arguments give equal results. -/
theorem algebraic :
    algebraic_KernelIdeal_ReferenceIdeal (hKernelIdeal := Cert.KernelIdeal.Gen.facts) (hReferenceIdeal := Cert.ReferenceIdeal.Gen.facts) := by
  intro m g m' g' _ hm
  refine ⟨fun c => sorted (F := Ideal) c m, ?_, ?_⟩
  · exact (θ_run Cert.KernelIdeal.defs _ _).mono
      (fun _ h c => ⟨(h.1 c).2, (h.1 c).1 0, (h.1 c).1 1, (h.1 c).1 2, (h.1 c).1 3⟩) (run_main (F := Ideal) m g)
  · refine (θ_run Cert.ReferenceIdeal.defs _ _).mono (fun _ h c => ⟨(h c).1.trans ?_, (h c).2⟩)
      (Cert.ReferenceIdeal.Value.run (F := Ideal) m' g')
    rw [(hm c).1, (hm c).2.1, (hm c).2.2.1, (hm c).2.2.2]
    exact (Reference.result_eq (xval (F := Ideal) c m)).trans rfl

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
